-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def preserves_Kernel_KernelIdeal : Prop :=
  IdealRules.named_const.Statement Cert.KernelIdeal.κ "scale_d" .f32 0x3DB504F3#32 (((Real.sqrt 128)⁻¹ : ℝ) : EReal)
  ∧ IdealRules.named_const.Statement Cert.KernelIdeal.κ "scale_h" .f32 0x3E3504F3#32 (((Real.sqrt 32)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v315) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v41)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v41) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v100) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
-- ==== Kernel.lean ====
abbrev S16x100x200 : Shape := ⟨3, ![16, 100, 200]⟩
abbrev S128x100 : Shape := ⟨2, ![128, 100]⟩
abbrev S128 : Shape := ⟨1, ![128]⟩
abbrev S128x128 : Shape := ⟨2, ![128, 128]⟩
abbrev S2x128 : Shape := ⟨2, ![2, 128]⟩
abbrev S2x384x128 : Shape := ⟨3, ![2, 384, 128]⟩
abbrev S2x384 : Shape := ⟨2, ![2, 384]⟩
abbrev S2x128x128 : Shape := ⟨3, ![2, 128, 128]⟩
abbrev S2x2048x128 : Shape := ⟨3, ![2, 2048, 128]⟩
abbrev S2x2048 : Shape := ⟨2, ![2, 2048]⟩
abbrev S2x128x2048 : Shape := ⟨3, ![2, 128, 2048]⟩
abbrev S4096x128 : Shape := ⟨2, ![4096, 128]⟩
abbrev S4096 : Shape := ⟨1, ![4096]⟩
abbrev S1x8x128 : Shape := ⟨3, ![1, 8, 128]⟩
abbrev S2x4x32x128 : Shape := ⟨4, ![2, 4, 32, 128]⟩
abbrev S_ : Shape := ⟨0, ![]⟩
abbrev S2x4x128x128 : Shape := ⟨4, ![2, 4, 128, 128]⟩
abbrev S2x512x128 : Shape := ⟨3, ![2, 512, 128]⟩
abbrev S2x4x32 : Shape := ⟨3, ![2, 4, 32]⟩
abbrev S2x4x128 : Shape := ⟨3, ![2, 4, 128]⟩
abbrev S2x512 : Shape := ⟨2, ![2, 512]⟩
abbrev S2x128x4x32 : Shape := ⟨4, ![2, 128, 4, 32]⟩
abbrev S2x128x4x128 : Shape := ⟨4, ![2, 128, 4, 128]⟩
abbrev S2x128x512 : Shape := ⟨3, ![2, 128, 512]⟩
abbrev S1x128 : Shape := ⟨2, ![1, 128]⟩
abbrev S1x4096 : Shape := ⟨2, ![1, 4096]⟩
abbrev S16x8x4096 : Shape := ⟨3, ![16, 8, 4096]⟩
abbrev S8x100x200 : Shape := ⟨3, ![8, 100, 200]⟩
abbrev S8x8x4096 : Shape := ⟨3, ![8, 8, 4096]⟩
abbrev S8x128 : Shape := ⟨2, ![8, 128]⟩
abbrev S1x100x200 : Shape := ⟨3, ![1, 100, 200]⟩
abbrev S100x200 : Shape := ⟨2, ![100, 200]⟩
abbrev S200x128 : Shape := ⟨2, ![200, 128]⟩
abbrev S1600x128 : Shape := ⟨2, ![1600, 128]⟩
abbrev S200x200 : Shape := ⟨2, ![200, 200]⟩
abbrev S200 : Shape := ⟨1, ![200]⟩
abbrev S200x1 : Shape := ⟨2, ![200, 1]⟩
abbrev S1600 : Shape := ⟨1, ![1600]⟩
abbrev S1600x1 : Shape := ⟨2, ![1600, 1]⟩
abbrev S1x512x128 : Shape := ⟨3, ![1, 512, 128]⟩
abbrev S512x128 : Shape := ⟨2, ![512, 128]⟩
abbrev S1600x512 : Shape := ⟨2, ![1600, 512]⟩
abbrev S1x512 : Shape := ⟨2, ![1, 512]⟩
abbrev S512 : Shape := ⟨1, ![512]⟩
abbrev S200x512 : Shape := ⟨2, ![200, 512]⟩
abbrev S1x128x512 : Shape := ⟨3, ![1, 128, 512]⟩
abbrev S128x512 : Shape := ⟨2, ![128, 512]⟩
abbrev S1x2048x128 : Shape := ⟨3, ![1, 2048, 128]⟩
abbrev S2048x128 : Shape := ⟨2, ![2048, 128]⟩
abbrev S1600x2048 : Shape := ⟨2, ![1600, 2048]⟩
abbrev S1x2048 : Shape := ⟨2, ![1, 2048]⟩
abbrev S2048 : Shape := ⟨1, ![2048]⟩
abbrev S1x128x2048 : Shape := ⟨3, ![1, 128, 2048]⟩
abbrev S128x2048 : Shape := ⟨2, ![128, 2048]⟩
abbrev S8x200 : Shape := ⟨2, ![8, 200]⟩
abbrev S8 : Shape := ⟨1, ![8]⟩
abbrev S8x1 : Shape := ⟨2, ![8, 1]⟩
abbrev S64x128 : Shape := ⟨2, ![64, 128]⟩
abbrev S64x4096 : Shape := ⟨2, ![64, 4096]⟩
abbrev S64 : Shape := ⟨1, ![64]⟩
abbrev S64x1 : Shape := ⟨2, ![64, 1]⟩
abbrev S8x4096 : Shape := ⟨2, ![8, 4096]⟩
abbrev S1x8x4096 : Shape := ⟨3, ![1, 8, 4096]⟩

abbrev nBuf : Space → Nat
  | .hbm => 72
  | .vmem => 32
  | .smem => 0
  | _ => 0

abbrev bufTy : (tb : Table) → Fin (tcTables nBuf tb) → BufTy
  | .hbm, ⟨0, _⟩ => ⟨S16x100x200, .f32⟩
  | .hbm, ⟨1, _⟩ => ⟨S128x100, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S2x128, .f32⟩
  | .hbm, ⟨8, _⟩ => ⟨S2x128, .f32⟩
  | .hbm, ⟨9, _⟩ => ⟨S2x384x128, .f32⟩
  | .hbm, ⟨10, _⟩ => ⟨S2x384, .f32⟩
  | .hbm, ⟨11, _⟩ => ⟨S2x128x128, .f32⟩
  | .hbm, ⟨12, _⟩ => ⟨S2x128, .f32⟩
  | .hbm, ⟨13, _⟩ => ⟨S2x128, .f32⟩
  | .hbm, ⟨14, _⟩ => ⟨S2x128, .f32⟩
  | .hbm, ⟨15, _⟩ => ⟨S2x2048x128, .f32⟩
  | .hbm, ⟨16, _⟩ => ⟨S2x2048, .f32⟩
  | .hbm, ⟨17, _⟩ => ⟨S2x128x2048, .f32⟩
  | .hbm, ⟨18, _⟩ => ⟨S2x128, .f32⟩
  | .hbm, ⟨19, _⟩ => ⟨S4096x128, .f32⟩
  | .hbm, ⟨20, _⟩ => ⟨S4096, .f32⟩
  | .hbm, ⟨21, _⟩ => ⟨S4096, .f32⟩
  | .hbm, ⟨22, _⟩ => ⟨S4096, .f32⟩
  | .hbm, ⟨23, _⟩ => ⟨S1x8x128, .f32⟩
  | .hbm, ⟨24, _⟩ => ⟨S2x128x128, .f32⟩
  | .hbm, ⟨25, _⟩ => ⟨S2x4x32x128, .f32⟩
  | .hbm, ⟨26, _⟩ => ⟨S_, .i32⟩
  | .hbm, ⟨27, _⟩ => ⟨S_, .f32⟩
  | .hbm, ⟨28, _⟩ => ⟨S2x4x128x128, .f32⟩
  | .hbm, ⟨29, _⟩ => ⟨S2x512x128, .f32⟩
  | .hbm, ⟨30, _⟩ => ⟨S2x128x128, .f32⟩
  | .hbm, ⟨31, _⟩ => ⟨S2x4x32x128, .f32⟩
  | .hbm, ⟨32, _⟩ => ⟨S_, .i32⟩
  | .hbm, ⟨33, _⟩ => ⟨S_, .f32⟩
  | .hbm, ⟨34, _⟩ => ⟨S2x4x128x128, .f32⟩
  | .hbm, ⟨35, _⟩ => ⟨S2x512x128, .f32⟩
  | .hbm, ⟨36, _⟩ => ⟨S2x128x128, .f32⟩
  | .hbm, ⟨37, _⟩ => ⟨S2x4x32x128, .f32⟩
  | .hbm, ⟨38, _⟩ => ⟨S_, .i32⟩
  | .hbm, ⟨39, _⟩ => ⟨S_, .f32⟩
  | .hbm, ⟨40, _⟩ => ⟨S2x4x128x128, .f32⟩
  | .hbm, ⟨41, _⟩ => ⟨S2x512x128, .f32⟩
  | .hbm, ⟨42, _⟩ => ⟨S2x128, .f32⟩
  | .hbm, ⟨43, _⟩ => ⟨S2x4x32, .f32⟩
  | .hbm, ⟨44, _⟩ => ⟨S_, .i32⟩
  | .hbm, ⟨45, _⟩ => ⟨S_, .f32⟩
  | .hbm, ⟨46, _⟩ => ⟨S2x4x128, .f32⟩
  | .hbm, ⟨47, _⟩ => ⟨S2x512, .f32⟩
  | .hbm, ⟨48, _⟩ => ⟨S2x128, .f32⟩
  | .hbm, ⟨49, _⟩ => ⟨S2x4x32, .f32⟩
  | .hbm, ⟨50, _⟩ => ⟨S_, .i32⟩
  | .hbm, ⟨51, _⟩ => ⟨S_, .f32⟩
  | .hbm, ⟨52, _⟩ => ⟨S2x4x128, .f32⟩
  | .hbm, ⟨53, _⟩ => ⟨S2x512, .f32⟩
  | .hbm, ⟨54, _⟩ => ⟨S2x128, .f32⟩
  | .hbm, ⟨55, _⟩ => ⟨S2x4x32, .f32⟩
  | .hbm, ⟨56, _⟩ => ⟨S_, .i32⟩
  | .hbm, ⟨57, _⟩ => ⟨S_, .f32⟩
  | .hbm, ⟨58, _⟩ => ⟨S2x4x128, .f32⟩
  | .hbm, ⟨59, _⟩ => ⟨S2x512, .f32⟩
  | .hbm, ⟨60, _⟩ => ⟨S2x128x4x32, .f32⟩
  | .hbm, ⟨61, _⟩ => ⟨S_, .i32⟩
  | .hbm, ⟨62, _⟩ => ⟨S_, .f32⟩
  | .hbm, ⟨63, _⟩ => ⟨S2x128x4x128, .f32⟩
  | .hbm, ⟨64, _⟩ => ⟨S2x128x512, .f32⟩
  | .hbm, ⟨65, _⟩ => ⟨S1x128, .f32⟩
  | .hbm, ⟨66, _⟩ => ⟨S1x128, .f32⟩
  | .hbm, ⟨67, _⟩ => ⟨S1x128, .f32⟩
  | .hbm, ⟨68, _⟩ => ⟨S1x4096, .f32⟩
  | .hbm, ⟨69, _⟩ => ⟨S1x4096, .f32⟩
  | .hbm, ⟨70, _⟩ => ⟨S1x4096, .f32⟩
  | .hbm, ⟨71, _⟩ => ⟨S16x8x4096, .f32⟩
  | .local _ .vmem, ⟨0, _⟩ => ⟨S8x100x200, .f32⟩
  | .local _ .vmem, ⟨1, _⟩ => ⟨S8x100x200, .f32⟩
  | .local _ .vmem, ⟨2, _⟩ => ⟨S128x100, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S2x128, .f32⟩
  | .local _ .vmem, ⟨9, _⟩ => ⟨S2x128, .f32⟩
  | .local _ .vmem, ⟨10, _⟩ => ⟨S2x512x128, .f32⟩
  | .local _ .vmem, ⟨11, _⟩ => ⟨S2x512, .f32⟩
  | .local _ .vmem, ⟨12, _⟩ => ⟨S2x512x128, .f32⟩
  | .local _ .vmem, ⟨13, _⟩ => ⟨S2x512, .f32⟩
  | .local _ .vmem, ⟨14, _⟩ => ⟨S2x512x128, .f32⟩
  | .local _ .vmem, ⟨15, _⟩ => ⟨S2x512, .f32⟩
  | .local _ .vmem, ⟨16, _⟩ => ⟨S2x128x512, .f32⟩
  | .local _ .vmem, ⟨17, _⟩ => ⟨S2x128, .f32⟩
  | .local _ .vmem, ⟨18, _⟩ => ⟨S2x128, .f32⟩
  | .local _ .vmem, ⟨19, _⟩ => ⟨S2x128, .f32⟩
  | .local _ .vmem, ⟨20, _⟩ => ⟨S2x2048x128, .f32⟩
  | .local _ .vmem, ⟨21, _⟩ => ⟨S2x2048, .f32⟩
  | .local _ .vmem, ⟨22, _⟩ => ⟨S2x128x2048, .f32⟩
  | .local _ .vmem, ⟨23, _⟩ => ⟨S2x128, .f32⟩
  | .local _ .vmem, ⟨24, _⟩ => ⟨S4096x128, .f32⟩
  | .local _ .vmem, ⟨25, _⟩ => ⟨S1x4096, .f32⟩
  | .local _ .vmem, ⟨26, _⟩ => ⟨S1x4096, .f32⟩
  | .local _ .vmem, ⟨27, _⟩ => ⟨S1x4096, .f32⟩
  | .local _ .vmem, ⟨28, _⟩ => ⟨S1x8x128, .f32⟩
  | .local _ .vmem, ⟨29, _⟩ => ⟨S8x8x4096, .f32⟩
  | .local _ .vmem, ⟨30, _⟩ => ⟨S8x8x4096, .f32⟩
  | .local _ .vmem, ⟨31, _⟩ => ⟨S8x128, .f32⟩
  | _, _ => ⟨S16x100x200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_c : Ref sig .tc := ⟨.hbm, 26, rfl⟩
abbrev main_call0_v0 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_c_0 : Ref sig .tc := ⟨.hbm, 32, rfl⟩
abbrev main_call1_v0 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_c_1 : Ref sig .tc := ⟨.hbm, 38, rfl⟩
abbrev main_call2_v0 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_c_2 : Ref sig .tc := ⟨.hbm, 44, rfl⟩
abbrev main_call3_v0 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_c_3 : Ref sig .tc := ⟨.hbm, 50, rfl⟩
abbrev main_call4_v0 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_c_4 : Ref sig .tc := ⟨.hbm, 56, rfl⟩
abbrev main_call5_v0 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_c_5 : Ref sig .tc := ⟨.hbm, 61, rfl⟩
abbrev main_call6_v0 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg22_0 : Ref sig .tc := ⟨.vmem, 23, rfl⟩
abbrev cc0_stg23_0 : Ref sig .tc := ⟨.vmem, 24, rfl⟩
abbrev cc0_stg24_0 : Ref sig .tc := ⟨.vmem, 25, rfl⟩
abbrev cc0_stg25_0 : Ref sig .tc := ⟨.vmem, 26, rfl⟩
abbrev cc0_stg26_0 : Ref sig .tc := ⟨.vmem, 27, rfl⟩
abbrev cc0_stg27_0 : Ref sig .tc := ⟨.vmem, 28, rfl⟩
abbrev cc0_stg28_0 : Ref sig .tc := ⟨.vmem, 29, rfl⟩
abbrev cc0_stg28_1 : Ref sig .tc := ⟨.vmem, 30, rfl⟩
abbrev cc0_scratch0 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem22_0 : DmaSem sig := 23
abbrev cc0_sem23_0 : DmaSem sig := 24
abbrev cc0_sem24_0 : DmaSem sig := 25
abbrev cc0_sem25_0 : DmaSem sig := 26
abbrev cc0_sem26_0 : DmaSem sig := 27
abbrev cc0_sem27_0 : DmaSem sig := 28
abbrev cc0_sem28_0 : DmaSem sig := 29
abbrev cc0_sem28_1 : DmaSem sig := 30

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_28 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x100x200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x100 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x512x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x512x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2x512x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S2x128x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S2x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S2x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S2x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S2x2048x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S2x2048 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S2x128x2048 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S2x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S4096x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x4096 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x4096 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S1x4096 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S1x8x128 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 2 → Memref sig .tc .vmem S8x8x4096 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]
-- ==== KernelIdeal.lean ====
variable {F : FTy → Type} [FloatOps F] [Named F]
def κ : String → Option EReal := fun
  | "scale_d" => some (((Real.sqrt 128)⁻¹ : ℝ) : EReal)
  | "scale_h" => some (((Real.sqrt 32)⁻¹ : ℝ) : EReal)
  | _ => none
-- ==== ReferenceIdeal.lean ====
abbrev S16x100x200 : Shape := ⟨3, ![16, 100, 200]⟩
abbrev S128x100 : Shape := ⟨2, ![128, 100]⟩
abbrev S128 : Shape := ⟨1, ![128]⟩
abbrev S128x128 : Shape := ⟨2, ![128, 128]⟩
abbrev S2x128 : Shape := ⟨2, ![2, 128]⟩
abbrev S2x384x128 : Shape := ⟨3, ![2, 384, 128]⟩
abbrev S2x384 : Shape := ⟨2, ![2, 384]⟩
abbrev S2x128x128 : Shape := ⟨3, ![2, 128, 128]⟩
abbrev S2x2048x128 : Shape := ⟨3, ![2, 2048, 128]⟩
abbrev S2x2048 : Shape := ⟨2, ![2, 2048]⟩
abbrev S2x128x2048 : Shape := ⟨3, ![2, 128, 2048]⟩
abbrev S4096x128 : Shape := ⟨2, ![4096, 128]⟩
abbrev S4096 : Shape := ⟨1, ![4096]⟩
abbrev S1x8x128 : Shape := ⟨3, ![1, 8, 128]⟩
abbrev S16x200x100 : Shape := ⟨3, ![16, 200, 100]⟩
abbrev S100x128 : Shape := ⟨2, ![100, 128]⟩
abbrev S16x200x128 : Shape := ⟨3, ![16, 200, 128]⟩
abbrev S1x1x128 : Shape := ⟨3, ![1, 1, 128]⟩
abbrev S16x200x200 : Shape := ⟨3, ![16, 200, 200]⟩
abbrev S_ : Shape := ⟨0, ![]⟩
abbrev S16x200 : Shape := ⟨2, ![16, 200]⟩
abbrev S16x200x1 : Shape := ⟨3, ![16, 200, 1]⟩
abbrev S1x128 : Shape := ⟨2, ![1, 128]⟩
abbrev S1x384x128 : Shape := ⟨3, ![1, 384, 128]⟩
abbrev S384x128 : Shape := ⟨2, ![384, 128]⟩
abbrev S128x384 : Shape := ⟨2, ![128, 384]⟩
abbrev S16x200x384 : Shape := ⟨3, ![16, 200, 384]⟩
abbrev S1x384 : Shape := ⟨2, ![1, 384]⟩
abbrev S384 : Shape := ⟨1, ![384]⟩
abbrev S1x1x384 : Shape := ⟨3, ![1, 1, 384]⟩
abbrev S16x200x4x32 : Shape := ⟨4, ![16, 200, 4, 32]⟩
abbrev S16x4x200x200 : Shape := ⟨4, ![16, 4, 200, 200]⟩
abbrev S16x4x200 : Shape := ⟨3, ![16, 4, 200]⟩
abbrev S16x4x200x1 : Shape := ⟨4, ![16, 4, 200, 1]⟩
abbrev S16x4x32x200 : Shape := ⟨4, ![16, 4, 32, 200]⟩
abbrev S1x128x128 : Shape := ⟨3, ![1, 128, 128]⟩
abbrev S1x2048x128 : Shape := ⟨3, ![1, 2048, 128]⟩
abbrev S2048x128 : Shape := ⟨2, ![2048, 128]⟩
abbrev S128x2048 : Shape := ⟨2, ![128, 2048]⟩
abbrev S16x200x2048 : Shape := ⟨3, ![16, 200, 2048]⟩
abbrev S1x2048 : Shape := ⟨2, ![1, 2048]⟩
abbrev S2048 : Shape := ⟨1, ![2048]⟩
abbrev S1x1x2048 : Shape := ⟨3, ![1, 1, 2048]⟩
abbrev S1x128x2048 : Shape := ⟨3, ![1, 128, 2048]⟩
abbrev S16x8x128 : Shape := ⟨3, ![16, 8, 128]⟩
abbrev S16x8x200 : Shape := ⟨3, ![16, 8, 200]⟩
abbrev S16x8 : Shape := ⟨2, ![16, 8]⟩
abbrev S16x8x1 : Shape := ⟨3, ![16, 8, 1]⟩
abbrev S128x4096 : Shape := ⟨2, ![128, 4096]⟩
abbrev S16x8x4096 : Shape := ⟨3, ![16, 8, 4096]⟩
abbrev S1x1x4096 : Shape := ⟨3, ![1, 1, 4096]⟩

abbrev nBuf : Space → Nat
  | .hbm => 385
  | .vmem => 0
  | .smem => 0
  | _ => 0

abbrev hbmTy0_0 (i : Nat) : BufTy := match i % 128 with
  | 0 => ⟨S16x100x200, .f32⟩
  | 1 => ⟨S128x100, .f32⟩
  | 2 => ⟨S128, .f32⟩
  | 3 => ⟨S128x128, .f32⟩
  | 4 => ⟨S128, .f32⟩
  | 5 => ⟨S128x128, .f32⟩
  | 6 => ⟨S128, .f32⟩
  | 7 => ⟨S2x128, .f32⟩
  | 8 => ⟨S2x128, .f32⟩
  | 9 => ⟨S2x384x128, .f32⟩
  | 10 => ⟨S2x384, .f32⟩
  | 11 => ⟨S2x128x128, .f32⟩
  | 12 => ⟨S2x128, .f32⟩
  | 13 => ⟨S2x128, .f32⟩
  | 14 => ⟨S2x128, .f32⟩
  | 15 => ⟨S2x2048x128, .f32⟩
  | 16 => ⟨S2x2048, .f32⟩
  | 17 => ⟨S2x128x2048, .f32⟩
  | 18 => ⟨S2x128, .f32⟩
  | 19 => ⟨S4096x128, .f32⟩
  | 20 => ⟨S4096, .f32⟩
  | 21 => ⟨S4096, .f32⟩
  | 22 => ⟨S4096, .f32⟩
  | 23 => ⟨S1x8x128, .f32⟩
  | 24 => ⟨S16x200x100, .f32⟩
  | 25 => ⟨S100x128, .f32⟩
  | 26 => ⟨S16x200x128, .f32⟩
  | 27 => ⟨S1x1x128, .f32⟩
  | 28 => ⟨S16x200x128, .f32⟩
  | 29 => ⟨S16x200x128, .f32⟩
  | 30 => ⟨S128x128, .f32⟩
  | 31 => ⟨S16x200x128, .f32⟩
  | 32 => ⟨S1x1x128, .f32⟩
  | 33 => ⟨S16x200x128, .f32⟩
  | 34 => ⟨S16x200x128, .f32⟩
  | 35 => ⟨S128x128, .f32⟩
  | 36 => ⟨S16x200x128, .f32⟩
  | 37 => ⟨S1x1x128, .f32⟩
  | 38 => ⟨S16x200x128, .f32⟩
  | 39 => ⟨S16x200x128, .f32⟩
  | 40 => ⟨S16x200x200, .f32⟩
  | 41 => ⟨S_, .f32⟩
  | 42 => ⟨S_, .f32⟩
  | 43 => ⟨S16x200x200, .f32⟩
  | 44 => ⟨S16x200x200, .f32⟩
  | 45 => ⟨S_, .f32⟩
  | 46 => ⟨S16x200, .f32⟩
  | 47 => ⟨S_, .f32⟩
  | 48 => ⟨S16x200, .f32⟩
  | 49 => ⟨S16x200, .f32⟩
  | 50 => ⟨S16x200x1, .f32⟩
  | 51 => ⟨S16x200x200, .f32⟩
  | 52 => ⟨S16x200x200, .f32⟩
  | 53 => ⟨S16x200x200, .f32⟩
  | 54 => ⟨S_, .f32⟩
  | 55 => ⟨S16x200, .f32⟩
  | 56 => ⟨S16x200x1, .f32⟩
  | 57 => ⟨S16x200x200, .f32⟩
  | 58 => ⟨S16x200x200, .f32⟩
  | 59 => ⟨S16x200x128, .f32⟩
  | 60 => ⟨S1x128, .f32⟩
  | 61 => ⟨S128, .f32⟩
  | 62 => ⟨S1x128, .f32⟩
  | 63 => ⟨S128, .f32⟩
  | 64 => ⟨S_, .f32⟩
  | 65 => ⟨S16x200, .f32⟩
  | 66 => ⟨S16x200x1, .f32⟩
  | 67 => ⟨S_, .f32⟩
  | 68 => ⟨S16x200x1, .f32⟩
  | 69 => ⟨S16x200x1, .f32⟩
  | 70 => ⟨S16x200x128, .f32⟩
  | 71 => ⟨S16x200x128, .f32⟩
  | 72 => ⟨S16x200x128, .f32⟩
  | 73 => ⟨S_, .f32⟩
  | 74 => ⟨S16x200, .f32⟩
  | 75 => ⟨S16x200x1, .f32⟩
  | 76 => ⟨S_, .f32⟩
  | 77 => ⟨S16x200x1, .f32⟩
  | 78 => ⟨S16x200x1, .f32⟩
  | 79 => ⟨S16x200x128, .f32⟩
  | 80 => ⟨S16x200x128, .f32⟩
  | 81 => ⟨S_, .f32⟩
  | 82 => ⟨S16x200x1, .f32⟩
  | 83 => ⟨S16x200x1, .f32⟩
  | 84 => ⟨S16x200x1, .f32⟩
  | 85 => ⟨S16x200x128, .f32⟩
  | 86 => ⟨S16x200x128, .f32⟩
  | 87 => ⟨S1x1x128, .f32⟩
  | 88 => ⟨S16x200x128, .f32⟩
  | 89 => ⟨S16x200x128, .f32⟩
  | 90 => ⟨S1x1x128, .f32⟩
  | 91 => ⟨S16x200x128, .f32⟩
  | 92 => ⟨S16x200x128, .f32⟩
  | 93 => ⟨S1x384x128, .f32⟩
  | 94 => ⟨S384x128, .f32⟩
  | 95 => ⟨S128x384, .f32⟩
  | 96 => ⟨S16x200x384, .f32⟩
  | 97 => ⟨S1x384, .f32⟩
  | 98 => ⟨S384, .f32⟩
  | 99 => ⟨S1x1x384, .f32⟩
  | 100 => ⟨S16x200x384, .f32⟩
  | 101 => ⟨S16x200x384, .f32⟩
  | 102 => ⟨S16x200x128, .f32⟩
  | 103 => ⟨S16x200x128, .f32⟩
  | 104 => ⟨S16x200x128, .f32⟩
  | 105 => ⟨S16x200x4x32, .f32⟩
  | 106 => ⟨S16x200x4x32, .f32⟩
  | 107 => ⟨S16x200x4x32, .f32⟩
  | 108 => ⟨S16x4x200x200, .f32⟩
  | 109 => ⟨S_, .f32⟩
  | 110 => ⟨S_, .f32⟩
  | 111 => ⟨S16x4x200x200, .f32⟩
  | 112 => ⟨S16x4x200x200, .f32⟩
  | 113 => ⟨S_, .f32⟩
  | 114 => ⟨S16x4x200, .f32⟩
  | 115 => ⟨S_, .f32⟩
  | 116 => ⟨S16x4x200, .f32⟩
  | 117 => ⟨S16x4x200, .f32⟩
  | 118 => ⟨S16x4x200x1, .f32⟩
  | 119 => ⟨S16x4x200x200, .f32⟩
  | 120 => ⟨S16x4x200x200, .f32⟩
  | 121 => ⟨S16x4x200x200, .f32⟩
  | 122 => ⟨S_, .f32⟩
  | 123 => ⟨S16x4x200, .f32⟩
  | 124 => ⟨S16x4x200x1, .f32⟩
  | 125 => ⟨S16x4x200x200, .f32⟩
  | 126 => ⟨S16x4x200x200, .f32⟩
  | 127 => ⟨S16x4x32x200, .f32⟩
  | _ => ⟨S16x100x200, .f32⟩

abbrev hbmTy0_1 (i : Nat) : BufTy := match i % 128 with
  | 0 => ⟨S16x200x4x32, .f32⟩
  | 1 => ⟨S16x200x128, .f32⟩
  | 2 => ⟨S1x128x128, .f32⟩
  | 3 => ⟨S128x128, .f32⟩
  | 4 => ⟨S128x128, .f32⟩
  | 5 => ⟨S16x200x128, .f32⟩
  | 6 => ⟨S16x200x128, .f32⟩
  | 7 => ⟨S1x128, .f32⟩
  | 8 => ⟨S128, .f32⟩
  | 9 => ⟨S1x1x128, .f32⟩
  | 10 => ⟨S16x200x128, .f32⟩
  | 11 => ⟨S16x200x128, .f32⟩
  | 12 => ⟨S1x128, .f32⟩
  | 13 => ⟨S128, .f32⟩
  | 14 => ⟨S1x128, .f32⟩
  | 15 => ⟨S128, .f32⟩
  | 16 => ⟨S_, .f32⟩
  | 17 => ⟨S16x200, .f32⟩
  | 18 => ⟨S16x200x1, .f32⟩
  | 19 => ⟨S_, .f32⟩
  | 20 => ⟨S16x200x1, .f32⟩
  | 21 => ⟨S16x200x1, .f32⟩
  | 22 => ⟨S16x200x128, .f32⟩
  | 23 => ⟨S16x200x128, .f32⟩
  | 24 => ⟨S16x200x128, .f32⟩
  | 25 => ⟨S_, .f32⟩
  | 26 => ⟨S16x200, .f32⟩
  | 27 => ⟨S16x200x1, .f32⟩
  | 28 => ⟨S_, .f32⟩
  | 29 => ⟨S16x200x1, .f32⟩
  | 30 => ⟨S16x200x1, .f32⟩
  | 31 => ⟨S16x200x128, .f32⟩
  | 32 => ⟨S16x200x128, .f32⟩
  | 33 => ⟨S_, .f32⟩
  | 34 => ⟨S16x200x1, .f32⟩
  | 35 => ⟨S16x200x1, .f32⟩
  | 36 => ⟨S16x200x1, .f32⟩
  | 37 => ⟨S16x200x128, .f32⟩
  | 38 => ⟨S16x200x128, .f32⟩
  | 39 => ⟨S1x1x128, .f32⟩
  | 40 => ⟨S16x200x128, .f32⟩
  | 41 => ⟨S16x200x128, .f32⟩
  | 42 => ⟨S1x1x128, .f32⟩
  | 43 => ⟨S16x200x128, .f32⟩
  | 44 => ⟨S16x200x128, .f32⟩
  | 45 => ⟨S1x2048x128, .f32⟩
  | 46 => ⟨S2048x128, .f32⟩
  | 47 => ⟨S128x2048, .f32⟩
  | 48 => ⟨S16x200x2048, .f32⟩
  | 49 => ⟨S1x2048, .f32⟩
  | 50 => ⟨S2048, .f32⟩
  | 51 => ⟨S1x1x2048, .f32⟩
  | 52 => ⟨S16x200x2048, .f32⟩
  | 53 => ⟨S16x200x2048, .f32⟩
  | 54 => ⟨S_, .f32⟩
  | 55 => ⟨S16x200x2048, .f32⟩
  | 56 => ⟨S16x200x2048, .f32⟩
  | 57 => ⟨S1x128x2048, .f32⟩
  | 58 => ⟨S128x2048, .f32⟩
  | 59 => ⟨S2048x128, .f32⟩
  | 60 => ⟨S16x200x128, .f32⟩
  | 61 => ⟨S16x200x128, .f32⟩
  | 62 => ⟨S1x128, .f32⟩
  | 63 => ⟨S128, .f32⟩
  | 64 => ⟨S1x1x128, .f32⟩
  | 65 => ⟨S16x200x128, .f32⟩
  | 66 => ⟨S16x200x128, .f32⟩
  | 67 => ⟨S1x128, .f32⟩
  | 68 => ⟨S128, .f32⟩
  | 69 => ⟨S1x128, .f32⟩
  | 70 => ⟨S128, .f32⟩
  | 71 => ⟨S_, .f32⟩
  | 72 => ⟨S16x200, .f32⟩
  | 73 => ⟨S16x200x1, .f32⟩
  | 74 => ⟨S_, .f32⟩
  | 75 => ⟨S16x200x1, .f32⟩
  | 76 => ⟨S16x200x1, .f32⟩
  | 77 => ⟨S16x200x128, .f32⟩
  | 78 => ⟨S16x200x128, .f32⟩
  | 79 => ⟨S16x200x128, .f32⟩
  | 80 => ⟨S_, .f32⟩
  | 81 => ⟨S16x200, .f32⟩
  | 82 => ⟨S16x200x1, .f32⟩
  | 83 => ⟨S_, .f32⟩
  | 84 => ⟨S16x200x1, .f32⟩
  | 85 => ⟨S16x200x1, .f32⟩
  | 86 => ⟨S16x200x128, .f32⟩
  | 87 => ⟨S16x200x128, .f32⟩
  | 88 => ⟨S_, .f32⟩
  | 89 => ⟨S16x200x1, .f32⟩
  | 90 => ⟨S16x200x1, .f32⟩
  | 91 => ⟨S16x200x1, .f32⟩
  | 92 => ⟨S16x200x128, .f32⟩
  | 93 => ⟨S16x200x128, .f32⟩
  | 94 => ⟨S1x1x128, .f32⟩
  | 95 => ⟨S16x200x128, .f32⟩
  | 96 => ⟨S16x200x128, .f32⟩
  | 97 => ⟨S1x1x128, .f32⟩
  | 98 => ⟨S16x200x128, .f32⟩
  | 99 => ⟨S16x200x128, .f32⟩
  | 100 => ⟨S1x384x128, .f32⟩
  | 101 => ⟨S384x128, .f32⟩
  | 102 => ⟨S128x384, .f32⟩
  | 103 => ⟨S16x200x384, .f32⟩
  | 104 => ⟨S1x384, .f32⟩
  | 105 => ⟨S384, .f32⟩
  | 106 => ⟨S1x1x384, .f32⟩
  | 107 => ⟨S16x200x384, .f32⟩
  | 108 => ⟨S16x200x384, .f32⟩
  | 109 => ⟨S16x200x128, .f32⟩
  | 110 => ⟨S16x200x128, .f32⟩
  | 111 => ⟨S16x200x128, .f32⟩
  | 112 => ⟨S16x200x4x32, .f32⟩
  | 113 => ⟨S16x200x4x32, .f32⟩
  | 114 => ⟨S16x200x4x32, .f32⟩
  | 115 => ⟨S16x4x200x200, .f32⟩
  | 116 => ⟨S_, .f32⟩
  | 117 => ⟨S_, .f32⟩
  | 118 => ⟨S16x4x200x200, .f32⟩
  | 119 => ⟨S16x4x200x200, .f32⟩
  | 120 => ⟨S_, .f32⟩
  | 121 => ⟨S16x4x200, .f32⟩
  | 122 => ⟨S_, .f32⟩
  | 123 => ⟨S16x4x200, .f32⟩
  | 124 => ⟨S16x4x200, .f32⟩
  | 125 => ⟨S16x4x200x1, .f32⟩
  | 126 => ⟨S16x4x200x200, .f32⟩
  | 127 => ⟨S16x4x200x200, .f32⟩
  | _ => ⟨S16x100x200, .f32⟩

abbrev hbmTy0_2 (i : Nat) : BufTy := match i % 128 with
  | 0 => ⟨S16x4x200x200, .f32⟩
  | 1 => ⟨S_, .f32⟩
  | 2 => ⟨S16x4x200, .f32⟩
  | 3 => ⟨S16x4x200x1, .f32⟩
  | 4 => ⟨S16x4x200x200, .f32⟩
  | 5 => ⟨S16x4x200x200, .f32⟩
  | 6 => ⟨S16x4x32x200, .f32⟩
  | 7 => ⟨S16x200x4x32, .f32⟩
  | 8 => ⟨S16x200x128, .f32⟩
  | 9 => ⟨S1x128x128, .f32⟩
  | 10 => ⟨S128x128, .f32⟩
  | 11 => ⟨S128x128, .f32⟩
  | 12 => ⟨S16x200x128, .f32⟩
  | 13 => ⟨S16x200x128, .f32⟩
  | 14 => ⟨S1x128, .f32⟩
  | 15 => ⟨S128, .f32⟩
  | 16 => ⟨S1x1x128, .f32⟩
  | 17 => ⟨S16x200x128, .f32⟩
  | 18 => ⟨S16x200x128, .f32⟩
  | 19 => ⟨S1x128, .f32⟩
  | 20 => ⟨S128, .f32⟩
  | 21 => ⟨S1x128, .f32⟩
  | 22 => ⟨S128, .f32⟩
  | 23 => ⟨S_, .f32⟩
  | 24 => ⟨S16x200, .f32⟩
  | 25 => ⟨S16x200x1, .f32⟩
  | 26 => ⟨S_, .f32⟩
  | 27 => ⟨S16x200x1, .f32⟩
  | 28 => ⟨S16x200x1, .f32⟩
  | 29 => ⟨S16x200x128, .f32⟩
  | 30 => ⟨S16x200x128, .f32⟩
  | 31 => ⟨S16x200x128, .f32⟩
  | 32 => ⟨S_, .f32⟩
  | 33 => ⟨S16x200, .f32⟩
  | 34 => ⟨S16x200x1, .f32⟩
  | 35 => ⟨S_, .f32⟩
  | 36 => ⟨S16x200x1, .f32⟩
  | 37 => ⟨S16x200x1, .f32⟩
  | 38 => ⟨S16x200x128, .f32⟩
  | 39 => ⟨S16x200x128, .f32⟩
  | 40 => ⟨S_, .f32⟩
  | 41 => ⟨S16x200x1, .f32⟩
  | 42 => ⟨S16x200x1, .f32⟩
  | 43 => ⟨S16x200x1, .f32⟩
  | 44 => ⟨S16x200x128, .f32⟩
  | 45 => ⟨S16x200x128, .f32⟩
  | 46 => ⟨S1x1x128, .f32⟩
  | 47 => ⟨S16x200x128, .f32⟩
  | 48 => ⟨S16x200x128, .f32⟩
  | 49 => ⟨S1x1x128, .f32⟩
  | 50 => ⟨S16x200x128, .f32⟩
  | 51 => ⟨S16x200x128, .f32⟩
  | 52 => ⟨S1x2048x128, .f32⟩
  | 53 => ⟨S2048x128, .f32⟩
  | 54 => ⟨S128x2048, .f32⟩
  | 55 => ⟨S16x200x2048, .f32⟩
  | 56 => ⟨S1x2048, .f32⟩
  | 57 => ⟨S2048, .f32⟩
  | 58 => ⟨S1x1x2048, .f32⟩
  | 59 => ⟨S16x200x2048, .f32⟩
  | 60 => ⟨S16x200x2048, .f32⟩
  | 61 => ⟨S_, .f32⟩
  | 62 => ⟨S16x200x2048, .f32⟩
  | 63 => ⟨S16x200x2048, .f32⟩
  | 64 => ⟨S1x128x2048, .f32⟩
  | 65 => ⟨S128x2048, .f32⟩
  | 66 => ⟨S2048x128, .f32⟩
  | 67 => ⟨S16x200x128, .f32⟩
  | 68 => ⟨S16x200x128, .f32⟩
  | 69 => ⟨S1x128, .f32⟩
  | 70 => ⟨S128, .f32⟩
  | 71 => ⟨S1x1x128, .f32⟩
  | 72 => ⟨S16x200x128, .f32⟩
  | 73 => ⟨S16x200x128, .f32⟩
  | 74 => ⟨S16x8x128, .f32⟩
  | 75 => ⟨S16x8x200, .f32⟩
  | 76 => ⟨S_, .f32⟩
  | 77 => ⟨S_, .f32⟩
  | 78 => ⟨S16x8x200, .f32⟩
  | 79 => ⟨S16x8x200, .f32⟩
  | 80 => ⟨S_, .f32⟩
  | 81 => ⟨S16x8, .f32⟩
  | 82 => ⟨S_, .f32⟩
  | 83 => ⟨S16x8, .f32⟩
  | 84 => ⟨S16x8, .f32⟩
  | 85 => ⟨S16x8x1, .f32⟩
  | 86 => ⟨S16x8x200, .f32⟩
  | 87 => ⟨S16x8x200, .f32⟩
  | 88 => ⟨S16x8x200, .f32⟩
  | 89 => ⟨S_, .f32⟩
  | 90 => ⟨S16x8, .f32⟩
  | 91 => ⟨S16x8x1, .f32⟩
  | 92 => ⟨S16x8x200, .f32⟩
  | 93 => ⟨S16x8x200, .f32⟩
  | 94 => ⟨S16x8x128, .f32⟩
  | 95 => ⟨S128x4096, .f32⟩
  | 96 => ⟨S16x8x4096, .f32⟩
  | 97 => ⟨S1x1x4096, .f32⟩
  | 98 => ⟨S16x8x4096, .f32⟩
  | 99 => ⟨S16x8x4096, .f32⟩
  | 100 => ⟨S_, .f32⟩
  | 101 => ⟨S16x8, .f32⟩
  | 102 => ⟨S16x8x1, .f32⟩
  | 103 => ⟨S_, .f32⟩
  | 104 => ⟨S16x8x1, .f32⟩
  | 105 => ⟨S16x8x1, .f32⟩
  | 106 => ⟨S16x8x4096, .f32⟩
  | 107 => ⟨S16x8x4096, .f32⟩
  | 108 => ⟨S16x8x4096, .f32⟩
  | 109 => ⟨S_, .f32⟩
  | 110 => ⟨S16x8, .f32⟩
  | 111 => ⟨S16x8x1, .f32⟩
  | 112 => ⟨S_, .f32⟩
  | 113 => ⟨S16x8x1, .f32⟩
  | 114 => ⟨S16x8x1, .f32⟩
  | 115 => ⟨S16x8x4096, .f32⟩
  | 116 => ⟨S16x8x4096, .f32⟩
  | 117 => ⟨S_, .f32⟩
  | 118 => ⟨S16x8x1, .f32⟩
  | 119 => ⟨S16x8x1, .f32⟩
  | 120 => ⟨S16x8x1, .f32⟩
  | 121 => ⟨S16x8x4096, .f32⟩
  | 122 => ⟨S16x8x4096, .f32⟩
  | 123 => ⟨S1x1x4096, .f32⟩
  | 124 => ⟨S16x8x4096, .f32⟩
  | 125 => ⟨S16x8x4096, .f32⟩
  | 126 => ⟨S1x1x4096, .f32⟩
  | 127 => ⟨S16x8x4096, .f32⟩
  | _ => ⟨S16x100x200, .f32⟩

abbrev hbmTy0_3 (i : Nat) : BufTy := match i % 128 with
  | 0 => ⟨S16x8x4096, .f32⟩
  | _ => ⟨S16x100x200, .f32⟩

abbrev hbmTy (i : Nat) : BufTy := match i / 128 with
  | 0 => hbmTy0_0 i
  | 1 => hbmTy0_1 i
  | 2 => hbmTy0_2 i
  | 3 => hbmTy0_3 i
  | _ => ⟨S16x100x200, .f32⟩

abbrev bufTy : (tb : Table) → Fin (tcTables nBuf tb) → BufTy
  | .hbm, ⟨i, _⟩ => hbmTy i
  | _, _ => ⟨S16x100x200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_cst : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_cst_0 : Ref sig .tc := ⟨.hbm, 45, rfl⟩
abbrev main_v20 : Ref sig .tc := ⟨.hbm, 46, rfl⟩
abbrev main_cst_1 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_cst_2 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_cst_3 : Ref sig .tc := ⟨.hbm, 64, rfl⟩
abbrev main_v36 : Ref sig .tc := ⟨.hbm, 65, rfl⟩
abbrev main_v37 : Ref sig .tc := ⟨.hbm, 66, rfl⟩
abbrev main_cst_4 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_5 : Ref sig .tc := ⟨.hbm, 73, rfl⟩
abbrev main_v43 : Ref sig .tc := ⟨.hbm, 74, rfl⟩
abbrev main_v44 : Ref sig .tc := ⟨.hbm, 75, rfl⟩
abbrev main_cst_6 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_cst_7 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_cst_8 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_cst_9 : Ref sig .tc := ⟨.hbm, 113, rfl⟩
abbrev main_v79 : Ref sig .tc := ⟨.hbm, 114, rfl⟩
abbrev main_cst_10 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_cst_11 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_cst_12 : Ref sig .tc := ⟨.hbm, 144, rfl⟩
abbrev main_v107 : Ref sig .tc := ⟨.hbm, 145, rfl⟩
abbrev main_v108 : Ref sig .tc := ⟨.hbm, 146, rfl⟩
abbrev main_cst_13 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_cst_14 : Ref sig .tc := ⟨.hbm, 153, rfl⟩
abbrev main_v114 : Ref sig .tc := ⟨.hbm, 154, rfl⟩
abbrev main_v115 : Ref sig .tc := ⟨.hbm, 155, rfl⟩
abbrev main_cst_15 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_cst_16 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_call0_cst : Ref sig .tc := ⟨.hbm, 182, rfl⟩
abbrev main_call0_v0 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_cst_17 : Ref sig .tc := ⟨.hbm, 199, rfl⟩
abbrev main_v155 : Ref sig .tc := ⟨.hbm, 200, rfl⟩
abbrev main_v156 : Ref sig .tc := ⟨.hbm, 201, rfl⟩
abbrev main_cst_18 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_cst_19 : Ref sig .tc := ⟨.hbm, 208, rfl⟩
abbrev main_v162 : Ref sig .tc := ⟨.hbm, 209, rfl⟩
abbrev main_v163 : Ref sig .tc := ⟨.hbm, 210, rfl⟩
abbrev main_cst_20 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_cst_21 : Ref sig .tc := ⟨.hbm, 216, rfl⟩
abbrev main_v168 : Ref sig .tc := ⟨.hbm, 217, rfl⟩
abbrev main_v169 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩
abbrev main_v174 : Ref sig .tc := ⟨.hbm, 223, rfl⟩
abbrev main_v175 : Ref sig .tc := ⟨.hbm, 224, rfl⟩
abbrev main_v176 : Ref sig .tc := ⟨.hbm, 225, rfl⟩
abbrev main_v177 : Ref sig .tc := ⟨.hbm, 226, rfl⟩
abbrev main_v178 : Ref sig .tc := ⟨.hbm, 227, rfl⟩
abbrev main_v179 : Ref sig .tc := ⟨.hbm, 228, rfl⟩
abbrev main_v180 : Ref sig .tc := ⟨.hbm, 229, rfl⟩
abbrev main_v181 : Ref sig .tc := ⟨.hbm, 230, rfl⟩
abbrev main_v182 : Ref sig .tc := ⟨.hbm, 231, rfl⟩
abbrev main_v183 : Ref sig .tc := ⟨.hbm, 232, rfl⟩
abbrev main_v184 : Ref sig .tc := ⟨.hbm, 233, rfl⟩
abbrev main_v185 : Ref sig .tc := ⟨.hbm, 234, rfl⟩
abbrev main_v186 : Ref sig .tc := ⟨.hbm, 235, rfl⟩
abbrev main_v187 : Ref sig .tc := ⟨.hbm, 236, rfl⟩
abbrev main_v188 : Ref sig .tc := ⟨.hbm, 237, rfl⟩
abbrev main_v189 : Ref sig .tc := ⟨.hbm, 238, rfl⟩
abbrev main_v190 : Ref sig .tc := ⟨.hbm, 239, rfl⟩
abbrev main_v191 : Ref sig .tc := ⟨.hbm, 240, rfl⟩
abbrev main_v192 : Ref sig .tc := ⟨.hbm, 241, rfl⟩
abbrev main_v193 : Ref sig .tc := ⟨.hbm, 242, rfl⟩
abbrev main_v194 : Ref sig .tc := ⟨.hbm, 243, rfl⟩
abbrev main_cst_22 : Ref sig .tc := ⟨.hbm, 244, rfl⟩
abbrev main_v195 : Ref sig .tc := ⟨.hbm, 245, rfl⟩
abbrev main_v196 : Ref sig .tc := ⟨.hbm, 246, rfl⟩
abbrev main_v197 : Ref sig .tc := ⟨.hbm, 247, rfl⟩
abbrev main_cst_23 : Ref sig .tc := ⟨.hbm, 248, rfl⟩
abbrev main_v198 : Ref sig .tc := ⟨.hbm, 249, rfl⟩
abbrev main_cst_24 : Ref sig .tc := ⟨.hbm, 250, rfl⟩
abbrev main_v199 : Ref sig .tc := ⟨.hbm, 251, rfl⟩
abbrev main_v200 : Ref sig .tc := ⟨.hbm, 252, rfl⟩
abbrev main_v201 : Ref sig .tc := ⟨.hbm, 253, rfl⟩
abbrev main_v202 : Ref sig .tc := ⟨.hbm, 254, rfl⟩
abbrev main_v203 : Ref sig .tc := ⟨.hbm, 255, rfl⟩
abbrev main_v204 : Ref sig .tc := ⟨.hbm, 256, rfl⟩
abbrev main_cst_25 : Ref sig .tc := ⟨.hbm, 257, rfl⟩
abbrev main_v205 : Ref sig .tc := ⟨.hbm, 258, rfl⟩
abbrev main_v206 : Ref sig .tc := ⟨.hbm, 259, rfl⟩
abbrev main_v207 : Ref sig .tc := ⟨.hbm, 260, rfl⟩
abbrev main_v208 : Ref sig .tc := ⟨.hbm, 261, rfl⟩
abbrev main_v209 : Ref sig .tc := ⟨.hbm, 262, rfl⟩
abbrev main_v210 : Ref sig .tc := ⟨.hbm, 263, rfl⟩
abbrev main_v211 : Ref sig .tc := ⟨.hbm, 264, rfl⟩
abbrev main_v212 : Ref sig .tc := ⟨.hbm, 265, rfl⟩
abbrev main_v213 : Ref sig .tc := ⟨.hbm, 266, rfl⟩
abbrev main_v214 : Ref sig .tc := ⟨.hbm, 267, rfl⟩
abbrev main_v215 : Ref sig .tc := ⟨.hbm, 268, rfl⟩
abbrev main_v216 : Ref sig .tc := ⟨.hbm, 269, rfl⟩
abbrev main_v217 : Ref sig .tc := ⟨.hbm, 270, rfl⟩
abbrev main_v218 : Ref sig .tc := ⟨.hbm, 271, rfl⟩
abbrev main_v219 : Ref sig .tc := ⟨.hbm, 272, rfl⟩
abbrev main_v220 : Ref sig .tc := ⟨.hbm, 273, rfl⟩
abbrev main_v221 : Ref sig .tc := ⟨.hbm, 274, rfl⟩
abbrev main_v222 : Ref sig .tc := ⟨.hbm, 275, rfl⟩
abbrev main_v223 : Ref sig .tc := ⟨.hbm, 276, rfl⟩
abbrev main_v224 : Ref sig .tc := ⟨.hbm, 277, rfl⟩
abbrev main_v225 : Ref sig .tc := ⟨.hbm, 278, rfl⟩
abbrev main_cst_26 : Ref sig .tc := ⟨.hbm, 279, rfl⟩
abbrev main_v226 : Ref sig .tc := ⟨.hbm, 280, rfl⟩
abbrev main_v227 : Ref sig .tc := ⟨.hbm, 281, rfl⟩
abbrev main_cst_27 : Ref sig .tc := ⟨.hbm, 282, rfl⟩
abbrev main_v228 : Ref sig .tc := ⟨.hbm, 283, rfl⟩
abbrev main_v229 : Ref sig .tc := ⟨.hbm, 284, rfl⟩
abbrev main_v230 : Ref sig .tc := ⟨.hbm, 285, rfl⟩
abbrev main_v231 : Ref sig .tc := ⟨.hbm, 286, rfl⟩
abbrev main_v232 : Ref sig .tc := ⟨.hbm, 287, rfl⟩
abbrev main_cst_28 : Ref sig .tc := ⟨.hbm, 288, rfl⟩
abbrev main_v233 : Ref sig .tc := ⟨.hbm, 289, rfl⟩
abbrev main_v234 : Ref sig .tc := ⟨.hbm, 290, rfl⟩
abbrev main_cst_29 : Ref sig .tc := ⟨.hbm, 291, rfl⟩
abbrev main_v235 : Ref sig .tc := ⟨.hbm, 292, rfl⟩
abbrev main_v236 : Ref sig .tc := ⟨.hbm, 293, rfl⟩
abbrev main_v237 : Ref sig .tc := ⟨.hbm, 294, rfl⟩
abbrev main_v238 : Ref sig .tc := ⟨.hbm, 295, rfl⟩
abbrev main_cst_30 : Ref sig .tc := ⟨.hbm, 296, rfl⟩
abbrev main_v239 : Ref sig .tc := ⟨.hbm, 297, rfl⟩
abbrev main_v240 : Ref sig .tc := ⟨.hbm, 298, rfl⟩
abbrev main_v241 : Ref sig .tc := ⟨.hbm, 299, rfl⟩
abbrev main_v242 : Ref sig .tc := ⟨.hbm, 300, rfl⟩
abbrev main_v243 : Ref sig .tc := ⟨.hbm, 301, rfl⟩
abbrev main_v244 : Ref sig .tc := ⟨.hbm, 302, rfl⟩
abbrev main_v245 : Ref sig .tc := ⟨.hbm, 303, rfl⟩
abbrev main_v246 : Ref sig .tc := ⟨.hbm, 304, rfl⟩
abbrev main_v247 : Ref sig .tc := ⟨.hbm, 305, rfl⟩
abbrev main_v248 : Ref sig .tc := ⟨.hbm, 306, rfl⟩
abbrev main_v249 : Ref sig .tc := ⟨.hbm, 307, rfl⟩
abbrev main_v250 : Ref sig .tc := ⟨.hbm, 308, rfl⟩
abbrev main_v251 : Ref sig .tc := ⟨.hbm, 309, rfl⟩
abbrev main_v252 : Ref sig .tc := ⟨.hbm, 310, rfl⟩
abbrev main_v253 : Ref sig .tc := ⟨.hbm, 311, rfl⟩
abbrev main_v254 : Ref sig .tc := ⟨.hbm, 312, rfl⟩
abbrev main_v255 : Ref sig .tc := ⟨.hbm, 313, rfl⟩
abbrev main_v256 : Ref sig .tc := ⟨.hbm, 314, rfl⟩
abbrev main_v257 : Ref sig .tc := ⟨.hbm, 315, rfl⟩
abbrev main_v258 : Ref sig .tc := ⟨.hbm, 316, rfl⟩
abbrev main_call1_cst : Ref sig .tc := ⟨.hbm, 317, rfl⟩
abbrev main_call1_v0 : Ref sig .tc := ⟨.hbm, 318, rfl⟩
abbrev main_v259 : Ref sig .tc := ⟨.hbm, 319, rfl⟩
abbrev main_v260 : Ref sig .tc := ⟨.hbm, 320, rfl⟩
abbrev main_v261 : Ref sig .tc := ⟨.hbm, 321, rfl⟩
abbrev main_v262 : Ref sig .tc := ⟨.hbm, 322, rfl⟩
abbrev main_v263 : Ref sig .tc := ⟨.hbm, 323, rfl⟩
abbrev main_v264 : Ref sig .tc := ⟨.hbm, 324, rfl⟩
abbrev main_v265 : Ref sig .tc := ⟨.hbm, 325, rfl⟩
abbrev main_v266 : Ref sig .tc := ⟨.hbm, 326, rfl⟩
abbrev main_v267 : Ref sig .tc := ⟨.hbm, 327, rfl⟩
abbrev main_v268 : Ref sig .tc := ⟨.hbm, 328, rfl⟩
abbrev main_v269 : Ref sig .tc := ⟨.hbm, 329, rfl⟩
abbrev main_v270 : Ref sig .tc := ⟨.hbm, 330, rfl⟩
abbrev main_v271 : Ref sig .tc := ⟨.hbm, 331, rfl⟩
abbrev main_cst_31 : Ref sig .tc := ⟨.hbm, 332, rfl⟩
abbrev main_v272 : Ref sig .tc := ⟨.hbm, 333, rfl⟩
abbrev main_v273 : Ref sig .tc := ⟨.hbm, 334, rfl⟩
abbrev main_v274 : Ref sig .tc := ⟨.hbm, 335, rfl⟩
abbrev main_cst_32 : Ref sig .tc := ⟨.hbm, 336, rfl⟩
abbrev main_v275 : Ref sig .tc := ⟨.hbm, 337, rfl⟩
abbrev main_cst_33 : Ref sig .tc := ⟨.hbm, 338, rfl⟩
abbrev main_v276 : Ref sig .tc := ⟨.hbm, 339, rfl⟩
abbrev main_v277 : Ref sig .tc := ⟨.hbm, 340, rfl⟩
abbrev main_v278 : Ref sig .tc := ⟨.hbm, 341, rfl⟩
abbrev main_v279 : Ref sig .tc := ⟨.hbm, 342, rfl⟩
abbrev main_v280 : Ref sig .tc := ⟨.hbm, 343, rfl⟩
abbrev main_v281 : Ref sig .tc := ⟨.hbm, 344, rfl⟩
abbrev main_cst_34 : Ref sig .tc := ⟨.hbm, 345, rfl⟩
abbrev main_v282 : Ref sig .tc := ⟨.hbm, 346, rfl⟩
abbrev main_v283 : Ref sig .tc := ⟨.hbm, 347, rfl⟩
abbrev main_v284 : Ref sig .tc := ⟨.hbm, 348, rfl⟩
abbrev main_v285 : Ref sig .tc := ⟨.hbm, 349, rfl⟩
abbrev main_v286 : Ref sig .tc := ⟨.hbm, 350, rfl⟩
abbrev main_v287 : Ref sig .tc := ⟨.hbm, 351, rfl⟩
abbrev main_v288 : Ref sig .tc := ⟨.hbm, 352, rfl⟩
abbrev main_v289 : Ref sig .tc := ⟨.hbm, 353, rfl⟩
abbrev main_v290 : Ref sig .tc := ⟨.hbm, 354, rfl⟩
abbrev main_v291 : Ref sig .tc := ⟨.hbm, 355, rfl⟩
abbrev main_cst_35 : Ref sig .tc := ⟨.hbm, 356, rfl⟩
abbrev main_v292 : Ref sig .tc := ⟨.hbm, 357, rfl⟩
abbrev main_v293 : Ref sig .tc := ⟨.hbm, 358, rfl⟩
abbrev main_cst_36 : Ref sig .tc := ⟨.hbm, 359, rfl⟩
abbrev main_v294 : Ref sig .tc := ⟨.hbm, 360, rfl⟩
abbrev main_v295 : Ref sig .tc := ⟨.hbm, 361, rfl⟩
abbrev main_v296 : Ref sig .tc := ⟨.hbm, 362, rfl⟩
abbrev main_v297 : Ref sig .tc := ⟨.hbm, 363, rfl⟩
abbrev main_v298 : Ref sig .tc := ⟨.hbm, 364, rfl⟩
abbrev main_cst_37 : Ref sig .tc := ⟨.hbm, 365, rfl⟩
abbrev main_v299 : Ref sig .tc := ⟨.hbm, 366, rfl⟩
abbrev main_v300 : Ref sig .tc := ⟨.hbm, 367, rfl⟩
abbrev main_cst_38 : Ref sig .tc := ⟨.hbm, 368, rfl⟩
abbrev main_v301 : Ref sig .tc := ⟨.hbm, 369, rfl⟩
abbrev main_v302 : Ref sig .tc := ⟨.hbm, 370, rfl⟩
abbrev main_v303 : Ref sig .tc := ⟨.hbm, 371, rfl⟩
abbrev main_v304 : Ref sig .tc := ⟨.hbm, 372, rfl⟩
abbrev main_cst_39 : Ref sig .tc := ⟨.hbm, 373, rfl⟩
abbrev main_v305 : Ref sig .tc := ⟨.hbm, 374, rfl⟩
abbrev main_v306 : Ref sig .tc := ⟨.hbm, 375, rfl⟩
abbrev main_v307 : Ref sig .tc := ⟨.hbm, 376, rfl⟩
abbrev main_v308 : Ref sig .tc := ⟨.hbm, 377, rfl⟩
abbrev main_v309 : Ref sig .tc := ⟨.hbm, 378, rfl⟩
abbrev main_v310 : Ref sig .tc := ⟨.hbm, 379, rfl⟩
abbrev main_v311 : Ref sig .tc := ⟨.hbm, 380, rfl⟩
abbrev main_v312 : Ref sig .tc := ⟨.hbm, 381, rfl⟩
abbrev main_v313 : Ref sig .tc := ⟨.hbm, 382, rfl⟩
abbrev main_v314 : Ref sig .tc := ⟨.hbm, 383, rfl⟩
abbrev main_v315 : Ref sig .tc := ⟨.hbm, 384, rfl⟩

abbrev nD : Nat := 1
abbrev τ : Topo := Topo.v7x

variable {F : FTy → Type} [FloatOps F]
-- ==== Kernel2.lean ====
abbrev S16x100x200 : Shape := ⟨3, ![16, 100, 200]⟩
abbrev S400x1x3 : Shape := ⟨3, ![400, 1, 3]⟩
abbrev S400 : Shape := ⟨1, ![400]⟩
abbrev S200x2x3 : Shape := ⟨3, ![200, 2, 3]⟩
abbrev S200 : Shape := ⟨1, ![200]⟩
abbrev S200x1x3 : Shape := ⟨3, ![200, 1, 3]⟩
abbrev S200x3 : Shape := ⟨2, ![200, 3]⟩
abbrev S3x200 : Shape := ⟨2, ![3, 200]⟩
abbrev S3x1x200 : Shape := ⟨3, ![3, 1, 200]⟩
abbrev S200x2 : Shape := ⟨2, ![200, 2]⟩
abbrev S200x1 : Shape := ⟨2, ![200, 1]⟩
abbrev S1x1x200 : Shape := ⟨3, ![1, 1, 200]⟩
abbrev S16x1x200 : Shape := ⟨3, ![16, 1, 200]⟩
abbrev S16x99x200 : Shape := ⟨3, ![16, 99, 200]⟩
abbrev S1x200 : Shape := ⟨2, ![1, 200]⟩

abbrev nBuf : Space → Nat
  | .hbm => 51
  | .vmem => 15
  | .smem => 0
  | _ => 0

abbrev bufTy : (tb : Table) → Fin (tcTables nBuf tb) → BufTy
  | .hbm, ⟨0, _⟩ => ⟨S16x100x200, .f32⟩
  | .hbm, ⟨1, _⟩ => ⟨S400x1x3, .f32⟩
  | .hbm, ⟨2, _⟩ => ⟨S400, .f32⟩
  | .hbm, ⟨3, _⟩ => ⟨S400, .f32⟩
  | .hbm, ⟨4, _⟩ => ⟨S400, .f32⟩
  | .hbm, ⟨5, _⟩ => ⟨S200x2x3, .f32⟩
  | .hbm, ⟨6, _⟩ => ⟨S200, .f32⟩
  | .hbm, ⟨7, _⟩ => ⟨S200, .f32⟩
  | .hbm, ⟨8, _⟩ => ⟨S200, .f32⟩
  | .hbm, ⟨9, _⟩ => ⟨S200x2x3, .f32⟩
  | .hbm, ⟨10, _⟩ => ⟨S200x1x3, .f32⟩
  | .hbm, ⟨11, _⟩ => ⟨S200x3, .f32⟩
  | .hbm, ⟨12, _⟩ => ⟨S3x200, .f32⟩
  | .hbm, ⟨13, _⟩ => ⟨S3x1x200, .f32⟩
  | .hbm, ⟨14, _⟩ => ⟨S200x1x3, .f32⟩
  | .hbm, ⟨15, _⟩ => ⟨S200x3, .f32⟩
  | .hbm, ⟨16, _⟩ => ⟨S3x200, .f32⟩
  | .hbm, ⟨17, _⟩ => ⟨S3x1x200, .f32⟩
  | .hbm, ⟨18, _⟩ => ⟨S200x2, .f32⟩
  | .hbm, ⟨19, _⟩ => ⟨S200x1, .f32⟩
  | .hbm, ⟨20, _⟩ => ⟨S200, .f32⟩
  | .hbm, ⟨21, _⟩ => ⟨S1x1x200, .f32⟩
  | .hbm, ⟨22, _⟩ => ⟨S200x1, .f32⟩
  | .hbm, ⟨23, _⟩ => ⟨S200, .f32⟩
  | .hbm, ⟨24, _⟩ => ⟨S1x1x200, .f32⟩
  | .hbm, ⟨25, _⟩ => ⟨S200x2, .f32⟩
  | .hbm, ⟨26, _⟩ => ⟨S200x1, .f32⟩
  | .hbm, ⟨27, _⟩ => ⟨S200, .f32⟩
  | .hbm, ⟨28, _⟩ => ⟨S1x1x200, .f32⟩
  | .hbm, ⟨29, _⟩ => ⟨S200x1, .f32⟩
  | .hbm, ⟨30, _⟩ => ⟨S200, .f32⟩
  | .hbm, ⟨31, _⟩ => ⟨S1x1x200, .f32⟩
  | .hbm, ⟨32, _⟩ => ⟨S200x2, .f32⟩
  | .hbm, ⟨33, _⟩ => ⟨S200x1, .f32⟩
  | .hbm, ⟨34, _⟩ => ⟨S200, .f32⟩
  | .hbm, ⟨35, _⟩ => ⟨S1x1x200, .f32⟩
  | .hbm, ⟨36, _⟩ => ⟨S200x1, .f32⟩
  | .hbm, ⟨37, _⟩ => ⟨S200, .f32⟩
  | .hbm, ⟨38, _⟩ => ⟨S1x1x200, .f32⟩
  | .hbm, ⟨39, _⟩ => ⟨S200x1x3, .f32⟩
  | .hbm, ⟨40, _⟩ => ⟨S200x3, .f32⟩
  | .hbm, ⟨41, _⟩ => ⟨S3x200, .f32⟩
  | .hbm, ⟨42, _⟩ => ⟨S3x1x200, .f32⟩
  | .hbm, ⟨43, _⟩ => ⟨S200x1x3, .f32⟩
  | .hbm, ⟨44, _⟩ => ⟨S200x3, .f32⟩
  | .hbm, ⟨45, _⟩ => ⟨S3x200, .f32⟩
  | .hbm, ⟨46, _⟩ => ⟨S3x1x200, .f32⟩
  | .hbm, ⟨47, _⟩ => ⟨S1x1x200, .f32⟩
  | .hbm, ⟨48, _⟩ => ⟨S1x1x200, .f32⟩
  | .hbm, ⟨49, _⟩ => ⟨S1x1x200, .f32⟩
  | .hbm, ⟨50, _⟩ => ⟨S16x100x200, .f32⟩
  | .local _ .vmem, ⟨0, _⟩ => ⟨S16x100x200, .f32⟩
  | .local _ .vmem, ⟨1, _⟩ => ⟨S3x1x200, .f32⟩
  | .local _ .vmem, ⟨2, _⟩ => ⟨S3x1x200, .f32⟩
  | .local _ .vmem, ⟨3, _⟩ => ⟨S1x1x200, .f32⟩
  | .local _ .vmem, ⟨4, _⟩ => ⟨S1x1x200, .f32⟩
  | .local _ .vmem, ⟨5, _⟩ => ⟨S1x1x200, .f32⟩
  | .local _ .vmem, ⟨6, _⟩ => ⟨S1x1x200, .f32⟩
  | .local _ .vmem, ⟨7, _⟩ => ⟨S1x1x200, .f32⟩
  | .local _ .vmem, ⟨8, _⟩ => ⟨S1x1x200, .f32⟩
  | .local _ .vmem, ⟨9, _⟩ => ⟨S3x1x200, .f32⟩
  | .local _ .vmem, ⟨10, _⟩ => ⟨S3x1x200, .f32⟩
  | .local _ .vmem, ⟨11, _⟩ => ⟨S1x1x200, .f32⟩
  | .local _ .vmem, ⟨12, _⟩ => ⟨S1x1x200, .f32⟩
  | .local _ .vmem, ⟨13, _⟩ => ⟨S1x1x200, .f32⟩
  | .local _ .vmem, ⟨14, _⟩ => ⟨S16x100x200, .f32⟩
  | _, _ => ⟨S16x100x200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .vmem S16x100x200 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x1x200 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x1x200 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1x200 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1x200 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1x200 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1x200 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1x200 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1x200 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S3x1x200 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S3x1x200 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1x200 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1x200 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x1x200 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S16x100x200 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== Reference2Ideal.lean ====
abbrev S16x100x200 : Shape := ⟨3, ![16, 100, 200]⟩
abbrev S400x1x3 : Shape := ⟨3, ![400, 1, 3]⟩
abbrev S400 : Shape := ⟨1, ![400]⟩
abbrev S200x2x3 : Shape := ⟨3, ![200, 2, 3]⟩
abbrev S200 : Shape := ⟨1, ![200]⟩
abbrev S_ : Shape := ⟨0, ![]⟩
abbrev S16x200x100 : Shape := ⟨3, ![16, 200, 100]⟩
abbrev S16x200x102 : Shape := ⟨3, ![16, 200, 102]⟩
abbrev S16x200x1x102 : Shape := ⟨4, ![16, 200, 1, 102]⟩
abbrev S200x2x1x3 : Shape := ⟨4, ![200, 2, 1, 3]⟩
abbrev S16x200x1x100 : Shape := ⟨4, ![16, 200, 1, 100]⟩
abbrev S200x2x1x1 : Shape := ⟨4, ![200, 2, 1, 1]⟩
abbrev S200x2x1 : Shape := ⟨3, ![200, 2, 1]⟩
abbrev S200x2x16x100 : Shape := ⟨4, ![200, 2, 16, 100]⟩
abbrev S16x200x2x100 : Shape := ⟨4, ![16, 200, 2, 100]⟩
abbrev S16x400x100 : Shape := ⟨3, ![16, 400, 100]⟩
abbrev S1x400x1 : Shape := ⟨3, ![1, 400, 1]⟩
abbrev S16x400x102 : Shape := ⟨3, ![16, 400, 102]⟩
abbrev S16x200x2x102 : Shape := ⟨4, ![16, 200, 2, 102]⟩
abbrev S200x1x2x3 : Shape := ⟨4, ![200, 1, 2, 3]⟩
abbrev S200x1x2x1 : Shape := ⟨4, ![200, 1, 2, 1]⟩
abbrev S200x1x2 : Shape := ⟨3, ![200, 1, 2]⟩
abbrev S200x1x16x100 : Shape := ⟨4, ![200, 1, 16, 100]⟩
abbrev S1x200x1 : Shape := ⟨3, ![1, 200, 1]⟩

abbrev nBuf : Space → Nat
  | .hbm => 143
  | .vmem => 0
  | .smem => 0
  | _ => 0

abbrev hbmTy0_0 (i : Nat) : BufTy := match i % 128 with
  | 0 => ⟨S16x100x200, .f32⟩
  | 1 => ⟨S400x1x3, .f32⟩
  | 2 => ⟨S400, .f32⟩
  | 3 => ⟨S400, .f32⟩
  | 4 => ⟨S400, .f32⟩
  | 5 => ⟨S200x2x3, .f32⟩
  | 6 => ⟨S200, .f32⟩
  | 7 => ⟨S200, .f32⟩
  | 8 => ⟨S200, .f32⟩
  | 9 => ⟨S16x100x200, .i1⟩
  | 10 => ⟨S_, .f32⟩
  | 11 => ⟨S16x100x200, .f32⟩
  | 12 => ⟨S16x100x200, .f32⟩
  | 13 => ⟨S_, .f32⟩
  | 14 => ⟨S16x100x200, .f32⟩
  | 15 => ⟨S16x100x200, .i1⟩
  | 16 => ⟨S_, .f32⟩
  | 17 => ⟨S16x100x200, .f32⟩
  | 18 => ⟨S16x100x200, .f32⟩
  | 19 => ⟨S_, .f32⟩
  | 20 => ⟨S16x100x200, .f32⟩
  | 21 => ⟨S16x100x200, .i1⟩
  | 22 => ⟨S_, .f32⟩
  | 23 => ⟨S16x100x200, .f32⟩
  | 24 => ⟨S16x100x200, .f32⟩
  | 25 => ⟨S16x200x100, .f32⟩
  | 26 => ⟨S_, .i32⟩
  | 27 => ⟨S_, .f32⟩
  | 28 => ⟨S16x200x102, .f32⟩
  | 29 => ⟨S16x200x1x102, .f32⟩
  | 30 => ⟨S200x2x1x3, .f32⟩
  | 31 => ⟨S16x200x1x100, .f32⟩
  | 32 => ⟨S200x2x1x1, .f32⟩
  | 33 => ⟨S200x2x1, .f32⟩
  | 34 => ⟨S200x2x16x100, .f32⟩
  | 35 => ⟨S16x200x2x100, .f32⟩
  | 36 => ⟨S16x200x1x100, .f32⟩
  | 37 => ⟨S200x2x1x1, .f32⟩
  | 38 => ⟨S200x2x1, .f32⟩
  | 39 => ⟨S200x2x16x100, .f32⟩
  | 40 => ⟨S16x200x2x100, .f32⟩
  | 41 => ⟨S16x200x1x100, .f32⟩
  | 42 => ⟨S200x2x1x1, .f32⟩
  | 43 => ⟨S200x2x1, .f32⟩
  | 44 => ⟨S200x2x16x100, .f32⟩
  | 45 => ⟨S16x200x2x100, .f32⟩
  | 46 => ⟨S16x200x2x100, .f32⟩
  | 47 => ⟨S16x200x2x100, .f32⟩
  | 48 => ⟨S16x400x100, .f32⟩
  | 49 => ⟨S1x400x1, .f32⟩
  | 50 => ⟨S16x400x100, .f32⟩
  | 51 => ⟨S16x400x100, .f32⟩
  | 52 => ⟨S_, .f32⟩
  | 53 => ⟨S400, .f32⟩
  | 54 => ⟨S1x400x1, .f32⟩
  | 55 => ⟨S_, .f32⟩
  | 56 => ⟨S1x400x1, .f32⟩
  | 57 => ⟨S1x400x1, .f32⟩
  | 58 => ⟨S16x400x100, .f32⟩
  | 59 => ⟨S16x400x100, .f32⟩
  | 60 => ⟨S16x400x100, .f32⟩
  | 61 => ⟨S_, .f32⟩
  | 62 => ⟨S400, .f32⟩
  | 63 => ⟨S1x400x1, .f32⟩
  | 64 => ⟨S_, .f32⟩
  | 65 => ⟨S1x400x1, .f32⟩
  | 66 => ⟨S1x400x1, .f32⟩
  | 67 => ⟨S16x400x100, .f32⟩
  | 68 => ⟨S16x400x100, .f32⟩
  | 69 => ⟨S_, .f32⟩
  | 70 => ⟨S1x400x1, .f32⟩
  | 71 => ⟨S1x400x1, .f32⟩
  | 72 => ⟨S1x400x1, .f32⟩
  | 73 => ⟨S16x400x100, .f32⟩
  | 74 => ⟨S16x400x100, .f32⟩
  | 75 => ⟨S1x400x1, .f32⟩
  | 76 => ⟨S16x400x100, .f32⟩
  | 77 => ⟨S16x400x100, .f32⟩
  | 78 => ⟨S1x400x1, .f32⟩
  | 79 => ⟨S16x400x100, .f32⟩
  | 80 => ⟨S16x400x100, .f32⟩
  | 81 => ⟨S_, .f32⟩
  | 82 => ⟨S16x400x100, .f32⟩
  | 83 => ⟨S16x400x100, .f32⟩
  | 84 => ⟨S_, .i32⟩
  | 85 => ⟨S_, .f32⟩
  | 86 => ⟨S16x400x102, .f32⟩
  | 87 => ⟨S16x200x2x102, .f32⟩
  | 88 => ⟨S200x1x2x3, .f32⟩
  | 89 => ⟨S16x200x2x100, .f32⟩
  | 90 => ⟨S200x1x2x1, .f32⟩
  | 91 => ⟨S200x1x2, .f32⟩
  | 92 => ⟨S200x1x16x100, .f32⟩
  | 93 => ⟨S16x200x1x100, .f32⟩
  | 94 => ⟨S16x200x2x100, .f32⟩
  | 95 => ⟨S200x1x2x1, .f32⟩
  | 96 => ⟨S200x1x2, .f32⟩
  | 97 => ⟨S200x1x16x100, .f32⟩
  | 98 => ⟨S16x200x1x100, .f32⟩
  | 99 => ⟨S16x200x2x100, .f32⟩
  | 100 => ⟨S200x1x2x1, .f32⟩
  | 101 => ⟨S200x1x2, .f32⟩
  | 102 => ⟨S200x1x16x100, .f32⟩
  | 103 => ⟨S16x200x1x100, .f32⟩
  | 104 => ⟨S16x200x1x100, .f32⟩
  | 105 => ⟨S16x200x1x100, .f32⟩
  | 106 => ⟨S16x200x100, .f32⟩
  | 107 => ⟨S1x200x1, .f32⟩
  | 108 => ⟨S16x200x100, .f32⟩
  | 109 => ⟨S16x200x100, .f32⟩
  | 110 => ⟨S_, .f32⟩
  | 111 => ⟨S200, .f32⟩
  | 112 => ⟨S1x200x1, .f32⟩
  | 113 => ⟨S_, .f32⟩
  | 114 => ⟨S1x200x1, .f32⟩
  | 115 => ⟨S1x200x1, .f32⟩
  | 116 => ⟨S16x200x100, .f32⟩
  | 117 => ⟨S16x200x100, .f32⟩
  | 118 => ⟨S16x200x100, .f32⟩
  | 119 => ⟨S_, .f32⟩
  | 120 => ⟨S200, .f32⟩
  | 121 => ⟨S1x200x1, .f32⟩
  | 122 => ⟨S_, .f32⟩
  | 123 => ⟨S1x200x1, .f32⟩
  | 124 => ⟨S1x200x1, .f32⟩
  | 125 => ⟨S16x200x100, .f32⟩
  | 126 => ⟨S16x200x100, .f32⟩
  | 127 => ⟨S_, .f32⟩
  | _ => ⟨S16x100x200, .f32⟩

abbrev hbmTy0_1 (i : Nat) : BufTy := match i % 128 with
  | 0 => ⟨S1x200x1, .f32⟩
  | 1 => ⟨S1x200x1, .f32⟩
  | 2 => ⟨S1x200x1, .f32⟩
  | 3 => ⟨S16x200x100, .f32⟩
  | 4 => ⟨S16x200x100, .f32⟩
  | 5 => ⟨S1x200x1, .f32⟩
  | 6 => ⟨S16x200x100, .f32⟩
  | 7 => ⟨S16x200x100, .f32⟩
  | 8 => ⟨S1x200x1, .f32⟩
  | 9 => ⟨S16x200x100, .f32⟩
  | 10 => ⟨S16x200x100, .f32⟩
  | 11 => ⟨S_, .f32⟩
  | 12 => ⟨S16x200x100, .f32⟩
  | 13 => ⟨S16x200x100, .f32⟩
  | 14 => ⟨S16x100x200, .f32⟩
  | _ => ⟨S16x100x200, .f32⟩

abbrev hbmTy (i : Nat) : BufTy := match i / 128 with
  | 0 => hbmTy0_0 i
  | 1 => hbmTy0_1 i
  | _ => ⟨S16x100x200, .f32⟩

abbrev bufTy : (tb : Table) → Fin (tcTables nBuf tb) → BufTy
  | .hbm, ⟨i, _⟩ => hbmTy i
  | _, _ => ⟨S16x100x200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_cst : Ref sig .tc := ⟨.hbm, 10, rfl⟩
abbrev main_call0_call0_v0 : Ref sig .tc := ⟨.hbm, 11, rfl⟩
abbrev main_call0_v1 : Ref sig .tc := ⟨.hbm, 12, rfl⟩
abbrev main_call0_cst_0 : Ref sig .tc := ⟨.hbm, 13, rfl⟩
abbrev main_call0_v2 : Ref sig .tc := ⟨.hbm, 14, rfl⟩
abbrev main_call0_v3 : Ref sig .tc := ⟨.hbm, 15, rfl⟩
abbrev main_call0_cst_1 : Ref sig .tc := ⟨.hbm, 16, rfl⟩
abbrev main_call0_call1_v0 : Ref sig .tc := ⟨.hbm, 17, rfl⟩
abbrev main_call0_v4 : Ref sig .tc := ⟨.hbm, 18, rfl⟩
abbrev main_call0_cst_2 : Ref sig .tc := ⟨.hbm, 19, rfl⟩
abbrev main_call0_v5 : Ref sig .tc := ⟨.hbm, 20, rfl⟩
abbrev main_call0_v6 : Ref sig .tc := ⟨.hbm, 21, rfl⟩
abbrev main_call0_cst_3 : Ref sig .tc := ⟨.hbm, 22, rfl⟩
abbrev main_call0_call2_v0 : Ref sig .tc := ⟨.hbm, 23, rfl⟩
abbrev main_v0 : Ref sig .tc := ⟨.hbm, 24, rfl⟩
abbrev main_v1 : Ref sig .tc := ⟨.hbm, 25, rfl⟩
abbrev main_c : Ref sig .tc := ⟨.hbm, 26, rfl⟩
abbrev main_call1_v0 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_cst : Ref sig .tc := ⟨.hbm, 52, rfl⟩
abbrev main_v26 : Ref sig .tc := ⟨.hbm, 53, rfl⟩
abbrev main_v27 : Ref sig .tc := ⟨.hbm, 54, rfl⟩
abbrev main_cst_0 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_cst_1 : Ref sig .tc := ⟨.hbm, 61, rfl⟩
abbrev main_v33 : Ref sig .tc := ⟨.hbm, 62, rfl⟩
abbrev main_v34 : Ref sig .tc := ⟨.hbm, 63, rfl⟩
abbrev main_cst_2 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_cst_3 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_call2_cst : Ref sig .tc := ⟨.hbm, 81, rfl⟩
abbrev main_call2_v0 : Ref sig .tc := ⟨.hbm, 82, rfl⟩
abbrev main_v50 : Ref sig .tc := ⟨.hbm, 83, rfl⟩
abbrev main_c_4 : Ref sig .tc := ⟨.hbm, 84, rfl⟩
abbrev main_call3_v0 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_cst_5 : Ref sig .tc := ⟨.hbm, 110, rfl⟩
abbrev main_v75 : Ref sig .tc := ⟨.hbm, 111, rfl⟩
abbrev main_v76 : Ref sig .tc := ⟨.hbm, 112, rfl⟩
abbrev main_cst_6 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_cst_7 : Ref sig .tc := ⟨.hbm, 119, rfl⟩
abbrev main_v82 : Ref sig .tc := ⟨.hbm, 120, rfl⟩
abbrev main_v83 : Ref sig .tc := ⟨.hbm, 121, rfl⟩
abbrev main_cst_8 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_cst_9 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_call4_cst : Ref sig .tc := ⟨.hbm, 139, rfl⟩
abbrev main_call4_v0 : Ref sig .tc := ⟨.hbm, 140, rfl⟩
abbrev main_v99 : Ref sig .tc := ⟨.hbm, 141, rfl⟩
abbrev main_v100 : Ref sig .tc := ⟨.hbm, 142, rfl⟩

abbrev nD : Nat := 1
abbrev τ : Topo := Topo.v7x

variable {F : FTy → Type} [FloatOps F]
-- ==== Proof.RunIdeal.lean ====
/- The run of the body of KernelIdeal: the generated run taken over with a larger budget, which its twenty-nine
   staging buffers need. -/
module

public import proofs.«01_k».proof.Proof.Gen.KernelIdeal.Frame.Runs

@[expose] public section

-- membership in a rectangle of production extents (`View.cover_of_tiled`): the elaborator's structural look
-- recurses once per coordinate of the long axes
set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 12000000 in
/-- What the body's stores leave in each output's staging memref, as pieces (last first), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S8x100x200 .f32) (harg1 : arg1.IsWhole) (arg2 : Memref sig .tc .vmem S128x100 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S2x128 .f32) (harg8 : arg8.IsWhole) (arg9 : Memref sig .tc .vmem S2x128 .f32) (harg9 : arg9.IsWhole) (arg10 : Memref sig .tc .vmem S2x512x128 .f32) (harg10 : arg10.IsWhole) (arg11 : Memref sig .tc .vmem S2x512 .f32) (harg11 : arg11.IsWhole) (arg12 : Memref sig .tc .vmem S2x512x128 .f32) (harg12 : arg12.IsWhole) (arg13 : Memref sig .tc .vmem S2x512 .f32) (harg13 : arg13.IsWhole) (arg14 : Memref sig .tc .vmem S2x512x128 .f32) (harg14 : arg14.IsWhole) (arg15 : Memref sig .tc .vmem S2x512 .f32) (harg15 : arg15.IsWhole) (arg16 : Memref sig .tc .vmem S2x128x512 .f32) (harg16 : arg16.IsWhole) (arg17 : Memref sig .tc .vmem S2x128 .f32) (harg17 : arg17.IsWhole) (arg18 : Memref sig .tc .vmem S2x128 .f32) (harg18 : arg18.IsWhole) (arg19 : Memref sig .tc .vmem S2x128 .f32) (harg19 : arg19.IsWhole) (arg20 : Memref sig .tc .vmem S2x2048x128 .f32) (harg20 : arg20.IsWhole) (arg21 : Memref sig .tc .vmem S2x2048 .f32) (harg21 : arg21.IsWhole) (arg22 : Memref sig .tc .vmem S2x128x2048 .f32) (harg22 : arg22.IsWhole) (arg23 : Memref sig .tc .vmem S2x128 .f32) (harg23 : arg23.IsWhole) (arg24 : Memref sig .tc .vmem S4096x128 .f32) (harg24 : arg24.IsWhole) (arg25 : Memref sig .tc .vmem S1x4096 .f32) (harg25 : arg25.IsWhole) (arg26 : Memref sig .tc .vmem S1x4096 .f32) (harg26 : arg26.IsWhole) (arg27 : Memref sig .tc .vmem S1x4096 .f32) (harg27 : arg27.IsWhole) (arg28 : Memref sig .tc .vmem S1x8x128 .f32) (harg28 : arg28.IsWhole) (arg29 : Memref sig .tc .vmem S8x8x4096 .f32) (harg29 : arg29.IsWhole) (arg30 : Memref sig .tc .vmem S8x128 .f32) (harg30 : arg30.IsWhole)
    (x0 : Vec F S8x100x200 .f32) (x1 : Vec F S128x100 .f32) (x2 : Vec F S1x128 .f32) (x3 : Vec F S128x128 .f32) (x4 : Vec F S1x128 .f32) (x5 : Vec F S128x128 .f32) (x6 : Vec F S1x128 .f32) (x7 : Vec F S2x128 .f32) (x8 : Vec F S2x128 .f32) (x9 : Vec F S2x512x128 .f32) (x10 : Vec F S2x512 .f32) (x11 : Vec F S2x512x128 .f32) (x12 : Vec F S2x512 .f32) (x13 : Vec F S2x512x128 .f32) (x14 : Vec F S2x512 .f32) (x15 : Vec F S2x128x512 .f32) (x16 : Vec F S2x128 .f32) (x17 : Vec F S2x128 .f32) (x18 : Vec F S2x128 .f32) (x19 : Vec F S2x2048x128 .f32) (x20 : Vec F S2x2048 .f32) (x21 : Vec F S2x128x2048 .f32) (x22 : Vec F S2x128 .f32) (x23 : Vec F S4096x128 .f32) (x24 : Vec F S1x4096 .f32) (x25 : Vec F S1x4096 .f32) (x26 : Vec F S1x4096 .f32) (x27 : Vec F S1x8x128 .f32) :
    { L28 : List (View.Piece (Elt F) S8x8x4096 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ owns (c : Thread nD τ) arg28 fullShare x27 ∗ (∃ d, owns (c : Thread nD τ) arg29 fullShare d) ∗ (∃ d, owns (c : Thread nD τ) arg30 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ owns (c : Thread nD τ) arg28 fullShare x27 ∗ (∃ f, arg29.view.loc (c : Thread nD τ) ↦[arg29.view.set]{fullShare} arg29.view.writes (Elt F) f L28) ∗ (∃ d, owns (c : Thread nD τ) arg30 fullShare d)) -∗ K ⟨⟩))
          ⊢ wp frame (wpE (defs₀ (F := F)) Variants.none c none) E (cc0_encoder i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K } := by
  refine ⟨?_, fun E K => ?run⟩
  case run =>
    simp only [cc0_encoder_eq_skeleton]; unfold cc0_encoder_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%d28, %f28, -, H28⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22; obtain rfl := harg24.eq_unread hf23; obtain rfl := harg25.eq_unread hf24; obtain rfl := harg26.eq_unread hf25; obtain rfl := harg27.eq_unread hf26; obtain rfl := harg28.eq_unread hf27
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]
    · iexists _; isplitr; · ipureintro; exact harg23.read_unread _
      iexact H22
    isplitl [H23]
    · iexists _; isplitr; · ipureintro; exact harg24.read_unread _
      iexact H23
    isplitl [H24]
    · iexists _; isplitr; · ipureintro; exact harg25.read_unread _
      iexact H24
    isplitl [H25]
    · iexists _; isplitr; · ipureintro; exact harg26.read_unread _
      iexact H25
    isplitl [H26]
    · iexists _; isplitr; · ipureintro; exact harg27.read_unread _
      iexact H26
    isplitl [H27]
    · iexists _; isplitr; · ipureintro; exact harg28.read_unread _
      iexact H27
    isplitl [H28]; · iexists _; iexact H28
    iexists _, _; isplitr; swap; · iexact HS0
    ipureintro; rfl

end Cert.KernelIdeal.Hand

end
-- ==== Proof.FrameIdeal.lean ====
/- The frame of KernelIdeal: the body's obligation, the launch and the arguments unchanged, over the run of RunIdeal. -/
module

public import proofs.«01_k».proof.Proof.RunIdeal
public import Idealize.ShloMosaic.Lib.Claim

@[expose] public section

-- membership in a rectangle of production extents (`View.cover_of_tiled`): the elaborator's structural look
-- recurses once per coordinate of the long axes
set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- The run at grid point `t`: at the point's staging buffers and the inputs' blocks. -/
abbrev point (c : Dev nD) (t : Fin cfg0.N) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t)

/-- The pieces the run leaves in the output's staging buffer tile its block, so they cover it. -/
theorem cover (c : Dev nD) (t : Fin cfg0.N) (y : S8x8x4096.Idx) : ∃ pc ∈ (point m c t).1, y ∈ pc.1.set :=
  View.cover_of_tiledL (point m c t).1 S1x8x4096.size (by sl_kernel_rfl) y

/-- What the body leaves in the output's staging buffer at point `t`: the run's pieces, read back. -/
def outsAt0 (c : Dev nD) (t : Fin cfg0.N) : Vec F S8x8x4096 .f32 :=
  VO0_28.read (Elt F) (VO0_28.writes (Elt F) VO0_28.junk (point m c t).1)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => (outsAt0 m c t)
    | ⟨_ + 29, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = iblk m c 26 t := by dsimp only [dats]
theorem after0_27 (c : Dev nD) (t : Fin cfg0.N) : (dats m 0 c).after 27 t = iblk m c 27 t := by dsimp only [dats]
theorem after0_28 (c : Dev nD) (t : Fin cfg0.N) : (dats m 0 c).after 28 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d
theorem before0_25 (c : Dev nD) (t : Fin cfg0.N) (d) : (dats m 0 c).before 25 t d = iblk m c 25 t :=
  before0_25_of m (dats m 0 c) (A_eq m c 25) (after0_25 m c) t d
theorem before0_26 (c : Dev nD) (t : Fin cfg0.N) (d) : (dats m 0 c).before 26 t d = iblk m c 26 t :=
  before0_26_of m (dats m 0 c) (A_eq m c 26) (after0_26 m c) t d
theorem before0_27 (c : Dev nD) (t : Fin cfg0.N) (d) : (dats m 0 c).before 27 t d = iblk m c 27 t :=
  before0_27_of m (dats m 0 c) (A_eq m c 27) (after0_27 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t)
    ∗ owns (c : Thread nD τ) (ms0_28 t) fullShare ((dats m 0 c).after 28 t))

set_option maxHeartbeats 8000000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28]
  rw [show (dats m 0 c).Φ t.castSucc = Pipeline.ΦA spec0 c from rfl, PhiA0_eq]
  unfold outsAt0
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩⟩
  iapply ((point m c t).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexists _; iexact H28
  isplitl [HS0]; · iexact HS0
  iintro ⟨H0, H1, H2, H3, H4, H5, H6, H7, H8, H9, H10, H11, H12, H13, H14, H15, H16, H17, H18, H19, H20, H21, H22, H23, H24, H25, H26, H27, ⟨%e28, H28⟩, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  unfold owns; iexists _; isplitr
  swap; · iexact H28
  ipureintro; exact View.read_writes_of_cover _ _ _ _ _ (cover m c t)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 8000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23))
      ∧ r.2.sem = fun _ => 0) :=
  θ_run_and (unchanged m ρ) ((θ_run defs _ _).mono (fun _ h => h.2) (run_main_quiescent m ρ))

end Cert.KernelIdeal.Hand

end
-- ==== Proof.Body.lean ====
/- The encoder's body as one function of the values it loads, in named steps: every step is a
   function of its operands, used once per group of batches, per head or per layer, where the
   printed body repeats its operations. -/
module

public import proofs.«01_k».proof.Proof.Gen.KernelIdeal.Skeleton

@[expose] public section

set_option maxRecDepth 16384

noncomputable section

namespace Cert.Enc

open Cert.KernelIdeal Cert.KernelIdeal.Gen Idealize.ShloMosaic Idealize.SL.Sem

variable {F : FTy → Type} [FloatOps F] [Named F]

/-- Group `g`'s 200 rows of a 1600-row array, all 128 columns. -/
theorem slices_rows (g : Fin 8) : S1600x128.Slices ![200 * g.val, 0] S200x128 := by
  revert g; decide

/-- Group `g`'s 200 rows and head `h`'s 128 columns of a 1600 by 512 array. -/
theorem slices_head (g : Fin 8) (h : Fin 4) : S1600x512.Slices ![200 * g.val, 128 * h.val] S200x128 := by
  revert g h; decide

/-- Group `g`'s 8 rows of the 64-row result. -/
theorem slices_out (g : Fin 8) : S64x4096.Slices ![8 * g.val, 0] S8x4096 := by
  revert g; decide

/-- Eight groups' 200 by 128 arrays, one above the other. -/
def cat8 {φ : FTy} (f : Fin 8 → FVec F S200x128 φ) : FVec F S1600x128 φ :=
  concatenate S1600x128 0 [⟨S200x128, f 0⟩, ⟨S200x128, f 1⟩, ⟨S200x128, f 2⟩, ⟨S200x128, f 3⟩, ⟨S200x128, f 4⟩, ⟨S200x128, f 5⟩, ⟨S200x128, f 6⟩, ⟨S200x128, f 7⟩] concatenates_S200x128_S200x128_S200x128_S200x128_S200x128_S200x128_S200x128_S200x128_S1600x128_d0

/-- Four heads' 200 by 128 arrays, side by side. -/
def cat4 (f : Fin 4 → FVec F S200x128 .bf16) : FVec F S200x512 .bf16 :=
  concatenate S200x512 1 [⟨S200x128, f 0⟩, ⟨S200x128, f 1⟩, ⟨S200x128, f 2⟩, ⟨S200x128, f 3⟩] concatenates_S200x128_S200x128_S200x128_S200x128_S200x512_d1

/-- Eight groups' 200 by 512 arrays, one above the other. -/
def cat8w (f : Fin 8 → FVec F S200x512 .bf16) : FVec F S1600x512 .bf16 :=
  concatenate S1600x512 0 [⟨S200x512, f 0⟩, ⟨S200x512, f 1⟩, ⟨S200x512, f 2⟩, ⟨S200x512, f 3⟩, ⟨S200x512, f 4⟩, ⟨S200x512, f 5⟩, ⟨S200x512, f 6⟩, ⟨S200x512, f 7⟩] concatenates_S200x512_S200x512_S200x512_S200x512_S200x512_S200x512_S200x512_S200x512_S1600x512_d0

/-- Eight groups' 8 by 128 arrays, one above the other. -/
def cat8q (f : Fin 8 → FVec F S8x128 .f32) : FVec F S64x128 .f32 :=
  concatenate S64x128 0 [⟨S8x128, f 0⟩, ⟨S8x128, f 1⟩, ⟨S8x128, f 2⟩, ⟨S8x128, f 3⟩, ⟨S8x128, f 4⟩, ⟨S8x128, f 5⟩, ⟨S8x128, f 6⟩, ⟨S8x128, f 7⟩] concatenates_S8x128_S8x128_S8x128_S8x128_S8x128_S8x128_S8x128_S8x128_S64x128_d0

/-- One batch's features: its 100 by 200 block, transposed, times the weights. -/
def feat (w : FVec F S128x100 .f32) (x : FVec F S1x100x200 .f32) : FVec F S200x128 .f32 :=
  matmul dot_S100x200_S128x100_S200x128_0_1_1_0_n_n none
    (truncf .bf16 (shapeCast S100x200 x shapeCasts_S1x100x200_S100x200) bitsLt_bf16_f32)
    (truncf .bf16 w bitsLt_bf16_f32) (constant S200x128 .f32 0x00000000#32)

/-- The eight batches' features and the bias, rounded. -/
def feats (w : FVec F S128x100 .f32) (b : FVec F S1x128 .f32) (x : Fin 8 → FVec F S1x100x200 .f32) : FVec F S1600x128 .bf16 :=
  truncf .bf16 (addf (cat8 fun g => feat w (x g))
    (broadcastTo S1600x128 (shapeCast S1x128 b shapeCasts_S1x128_S1x128) broadcasts_S1x128_S1600x128)) bitsLt_bf16_f32

/-- A 128 to 128 linear map of the rows, rounded. -/
def lin128 (y : FVec F S1600x128 .bf16) (w : FVec F S128x128 .f32) (b : FVec F S1x128 .f32) : FVec F S1600x128 .bf16 :=
  truncf .bf16 (addf (matmul dot_S1600x128_S128x128_S1600x128_1_1_0_0_n_n none y (truncf .bf16 w bitsLt_bf16_f32) (constant S1600x128 .f32 0x00000000#32))
    (broadcastTo S1600x128 (shapeCast S1x128 b shapeCasts_S1x128_S1x128) broadcasts_S1x128_S1600x128)) bitsLt_bf16_f32

/-- The softmax of each of 200 rows of 200 scores, rounded. -/
def soft200 (s : FVec F S200x200 .f32) : FVec F S200x200 .bf16 :=
  have e : FVec F S200x200 .f32 := exp (subf s (broadcastTo S200x200 (shapeCast S200x1 (multiReduction .maximumf [1] S200 s 0xFF800000#32 reduces_S200x200_S200 (.inl rfl) rfl) shapeCasts_S200_S200x1) broadcasts_S200x1_S200x200))
  truncf .bf16 (divf e (broadcastTo S200x200 (shapeCast S200x1 (multiReduction .add [1] S200 e 0x00000000#32 reduces_S200x200_S200 (.inl rfl) rfl) shapeCasts_S200_S200x1) broadcasts_S200x1_S200x200)) bitsLt_bf16_f32

/-- The scaled scores of 200 rows against 200 rows. -/
def scores (s : F .f32) (q k : FVec F S200x128 .bf16) : FVec F S200x200 .f32 :=
  mulf (matmul dot_S200x128_S200x128_S200x200_1_1_0_0_n_n none q k (constant S200x200 .f32 0x00000000#32)) (broadcast S200x200 s)

/-- Attention of 200 rows over 200 rows, the scores scaled by `s`. -/
def attend (s : F .f32) (q k v : FVec F S200x128 .bf16) : FVec F S200x128 .f32 :=
  matmul dot_S200x200_S200x128_S200x128_1_0_0_1_n_n none (soft200 (scores s q k)) v (constant S200x128 .f32 0x00000000#32)

/-- Group `g`'s rows. -/
def rows (g : Fin 8) (x : FVec F S1600x128 .bf16) : FVec F S200x128 .bf16 :=
  extractStridedSlice S200x128 ![200 * g.val, 0] x (slices_rows g)

/-- Group `g`'s rows of head `h`. -/
def rowsHead (g : Fin 8) (h : Fin 4) (x : FVec F S1600x512 .bf16) : FVec F S200x128 .bf16 :=
  extractStridedSlice S200x128 ![200 * g.val, 128 * h.val] x (slices_head g h)

/-- The graph step: every batch's rows mixed by their adjacency. -/
def graph (h q k : FVec F S1600x128 .bf16) : FVec F S1600x128 .f32 :=
  cat8 fun g => attend (Named.named κ "scale_d" 0x3DB504F3#32) (rows g q) (rows g k) (rows g h)

/-- The mean of each row. -/
def means (z : FVec F S1600x128 .f32) : FVec F S1600x1 .f32 :=
  divf (shapeCast S1600x1 (multiReduction .add [1] S1600 z 0x00000000#32 reduces_S1600x128_S1600 (.inl rfl) rfl) shapeCasts_S1600_S1600x1) (broadcast S1600x1 (Scalar.ofBits .f32 0x43000000#32))

/-- The layer normalization of each row, with gain and offset, rounded. -/
def normed (z : FVec F S1600x128 .f32) (g b : FVec F S1x128 .f32) : FVec F S1600x128 .bf16 :=
  have d : FVec F S1600x128 .f32 := subf z (broadcastTo S1600x128 (means z) broadcasts_S1600x1_S1600x128)
  truncf .bf16 (addf (mulf (mulf d (broadcastTo S1600x128 (rsqrt (addf (means (mulf d d)) (broadcast S1600x1 (Scalar.ofBits .f32 0x3727C5AC#32)))) broadcasts_S1600x1_S1600x128))
      (broadcastTo S1600x128 (shapeCast S1x128 (shapeCast S128 g shapeCasts_S1x128_S128) shapeCasts_S128_S1x128) broadcasts_S1x128_S1600x128))
    (broadcastTo S1600x128 (shapeCast S1x128 (shapeCast S128 b shapeCasts_S1x128_S128) shapeCasts_S128_S1x128) broadcasts_S1x128_S1600x128)) bitsLt_bf16_f32

/-- A 128 to 512 linear map of the rows (four heads of 128), rounded. -/
def lin512 (y : FVec F S1600x128 .bf16) (w : FVec F S1x512x128 .f32) (b : FVec F S1x512 .f32) : FVec F S1600x512 .bf16 :=
  truncf .bf16 (addf (matmul dot_S1600x128_S512x128_S1600x512_1_1_0_0_n_n none y (truncf .bf16 (shapeCast S512x128 w shapeCasts_S1x512x128_S512x128) bitsLt_bf16_f32) (constant S1600x512 .f32 0x00000000#32))
    (broadcastTo S1600x512 (shapeCast S1x512 (shapeCast S512 b shapeCasts_S1x512_S512) shapeCasts_S512_S1x512) broadcasts_S1x512_S1600x512)) bitsLt_bf16_f32

/-- Self-attention of every batch, head by head. -/
def heads (q k v : FVec F S1600x512 .bf16) : FVec F S1600x512 .bf16 :=
  cat8w fun g => cat4 fun h => truncf .bf16 (attend (Named.named κ "scale_h" 0x3E3504F3#32) (rowsHead g h q) (rowsHead g h k) (rowsHead g h v)) bitsLt_bf16_f32

/-- A row of 128 added to every row. -/
def addRow (z : FVec F S1600x128 .f32) (b : FVec F S1x128 .f32) : FVec F S1600x128 .f32 :=
  addf z (broadcastTo S1600x128 (shapeCast S1x128 (shapeCast S128 b shapeCasts_S1x128_S128) shapeCasts_S128_S1x128) broadcasts_S1x128_S1600x128)

/-- The output projection of the heads, added to the rows. -/
def project (z : FVec F S1600x128 .f32) (o : FVec F S1600x512 .bf16) (w : FVec F S1x128x512 .f32) (b : FVec F S1x128 .f32) : FVec F S1600x128 .f32 :=
  addRow (addf z (matmul dot_S1600x512_S128x512_S1600x128_1_1_0_0_n_n none o (truncf .bf16 (shapeCast S128x512 w shapeCasts_S1x128x512_S128x512) bitsLt_bf16_f32) (constant S1600x128 .f32 0x00000000#32))) b

/-- The feed-forward step's hidden rows. -/
def hidden (y : FVec F S1600x128 .bf16) (w : FVec F S1x2048x128 .f32) (b : FVec F S1x2048 .f32) : FVec F S1600x2048 .bf16 :=
  truncf .bf16 (maximumf (addf (matmul dot_S1600x128_S2048x128_S1600x2048_1_1_0_0_n_n none y (truncf .bf16 (shapeCast S2048x128 w shapeCasts_S1x2048x128_S2048x128) bitsLt_bf16_f32) (constant S1600x2048 .f32 0x00000000#32))
    (broadcastTo S1600x2048 (shapeCast S1x2048 (shapeCast S2048 b shapeCasts_S1x2048_S2048) shapeCasts_S2048_S1x2048) broadcasts_S1x2048_S1600x2048)) (broadcast S1600x2048 (Scalar.ofBits .f32 0x00000000#32))) bitsLt_bf16_f32

/-- The feed-forward step's output, added to the rows. -/
def feed (z : FVec F S1600x128 .f32) (f : FVec F S1600x2048 .bf16) (w : FVec F S1x128x2048 .f32) (b : FVec F S1x128 .f32) : FVec F S1600x128 .f32 :=
  addRow (addf z (matmul dot_S1600x2048_S128x2048_S1600x128_1_1_0_0_n_n none f (truncf .bf16 (shapeCast S128x2048 w shapeCasts_S1x128x2048_S128x2048) bitsLt_bf16_f32) (constant S1600x128 .f32 0x00000000#32))) b

/-- What one layer loads. -/
structure LayerIn (F : FTy → Type) [FloatOps F] where
  g1 : FVec F S1x128 .f32
  b1 : FVec F S1x128 .f32
  qw : FVec F S1x512x128 .f32
  qb : FVec F S1x512 .f32
  kw : FVec F S1x512x128 .f32
  kb : FVec F S1x512 .f32
  vw : FVec F S1x512x128 .f32
  vb : FVec F S1x512 .f32
  ow : FVec F S1x128x512 .f32
  ob : FVec F S1x128 .f32
  g2 : FVec F S1x128 .f32
  b2 : FVec F S1x128 .f32
  w1 : FVec F S1x2048x128 .f32
  c1 : FVec F S1x2048 .f32
  w2 : FVec F S1x128x2048 .f32
  c2 : FVec F S1x128 .f32

/-- One layer's attention half. -/
def layerA (L : LayerIn F) (z : FVec F S1600x128 .f32) : FVec F S1600x128 .f32 :=
  have y := normed z L.g1 L.b1
  project z (heads (lin512 y L.qw L.qb) (lin512 y L.kw L.kb) (lin512 y L.vw L.vb)) L.ow L.ob

/-- One layer's feed-forward half. -/
def layerB (L : LayerIn F) (z : FVec F S1600x128 .f32) : FVec F S1600x128 .f32 :=
  feed z (hidden (normed z L.g2 L.b2) L.w1 L.c1) L.w2 L.c2

/-- The softmax of each of 8 rows of 200 scores, rounded. -/
def soft8 (s : FVec F S8x200 .f32) : FVec F S8x200 .bf16 :=
  have e : FVec F S8x200 .f32 := exp (subf s (broadcastTo S8x200 (shapeCast S8x1 (multiReduction .maximumf [1] S8 s 0xFF800000#32 reduces_S8x200_S8 (.inl rfl) rfl) shapeCasts_S8_S8x1) broadcasts_S8x1_S8x200))
  truncf .bf16 (divf e (broadcastTo S8x200 (shapeCast S8x1 (multiReduction .add [1] S8 e 0x00000000#32 reduces_S8x200_S8 (.inl rfl) rfl) shapeCasts_S8_S8x1) broadcasts_S8x1_S8x200)) bitsLt_bf16_f32

/-- The scaled scores of the eight query tokens against 200 rows. -/
def scoresQ (q : FVec F S8x128 .bf16) (z : FVec F S200x128 .bf16) : FVec F S8x200 .f32 :=
  mulf (matmul dot_S8x128_S200x128_S8x200_1_1_0_0_n_n none q z (constant S8x200 .f32 0x00000000#32)) (broadcast S8x200 (Named.named κ "scale_d" 0x3DB504F3#32))

/-- The eight query tokens' attention over one batch's rows. -/
def pooled (q : FVec F S8x128 .bf16) (z : FVec F S200x128 .bf16) : FVec F S8x128 .f32 :=
  matmul dot_S8x200_S200x128_S8x128_1_0_0_1_n_n none (soft8 (scoresQ q z)) z (constant S8x128 .f32 0x00000000#32)

/-- The pooled rows of all eight batches. -/
def pool (qt : FVec F S1x8x128 .f32) (z : FVec F S1600x128 .f32) : FVec F S64x128 .f32 :=
  cat8q fun g => pooled (truncf .bf16 (shapeCast S8x128 qt shapeCasts_S1x8x128_S8x128) bitsLt_bf16_f32) (rows g (truncf .bf16 z bitsLt_bf16_f32))

/-- The projection of the pooled rows to the embedding width. -/
def embed (p : FVec F S64x128 .f32) (w : FVec F S4096x128 .f32) (b : FVec F S1x4096 .f32) : FVec F S64x4096 .f32 :=
  addf (matmul dot_S64x128_S4096x128_S64x4096_1_1_0_0_n_n none (truncf .bf16 p bitsLt_bf16_f32) (truncf .bf16 w bitsLt_bf16_f32) (constant S64x4096 .f32 0x00000000#32))
    (broadcastTo S64x4096 (shapeCast S1x4096 b shapeCasts_S1x4096_S1x4096) broadcasts_S1x4096_S64x4096)

/-- The mean of each embedding row. -/
def meansE (z : FVec F S64x4096 .f32) : FVec F S64x1 .f32 :=
  divf (shapeCast S64x1 (multiReduction .add [1] S64 z 0x00000000#32 reduces_S64x4096_S64 (.inl rfl) rfl) shapeCasts_S64_S64x1) (broadcast S64x1 (Scalar.ofBits .f32 0x45800000#32))

/-- The layer normalization of each embedding row. -/
def normedE (z : FVec F S64x4096 .f32) (g b : FVec F S1x4096 .f32) : FVec F S64x4096 .f32 :=
  have d : FVec F S64x4096 .f32 := subf z (broadcastTo S64x4096 (meansE z) broadcasts_S64x1_S64x4096)
  addf (mulf (mulf d (broadcastTo S64x4096 (rsqrt (addf (meansE (mulf d d)) (broadcast S64x1 (Scalar.ofBits .f32 0x3727C5AC#32)))) broadcasts_S64x1_S64x4096))
      (broadcastTo S64x4096 (shapeCast S1x4096 g shapeCasts_S1x4096_S1x4096) broadcasts_S1x4096_S64x4096))
    (broadcastTo S64x4096 (shapeCast S1x4096 b shapeCasts_S1x4096_S1x4096) broadcasts_S1x4096_S64x4096)

/-- The graph rows of eight batches, from the values the body loads. -/
def front (tw : FVec F S128x100 .f32) (tb : FVec F S1x128 .f32) (wq : FVec F S128x128 .f32) (bq : FVec F S1x128 .f32)
    (wk : FVec F S128x128 .f32) (bk : FVec F S1x128 .f32) (x : Fin 8 → FVec F S1x100x200 .f32) : FVec F S1600x128 .f32 :=
  have h := feats tw tb x
  graph h (lin128 h wq bq) (lin128 h wk bk)

/-- The embedding rows of eight batches, from the rows the layers leave. -/
def back (qt : FVec F S1x8x128 .f32) (pw : FVec F S4096x128 .f32) (pb lg lb : FVec F S1x4096 .f32) (z : FVec F S1600x128 .f32) : FVec F S64x4096 .f32 :=
  normedE (embed (pool qt z) pw pb) lg lb

/-- Group `g`'s 8 embedding rows, as stored. -/
def stored (g : Fin 8) (y : FVec F S64x4096 .f32) : FVec F S1x8x4096 .f32 :=
  shapeCast S1x8x4096 (extractStridedSlice S8x4096 ![8 * g.val, 0] y (slices_out g)) shapeCasts_S8x4096_S1x8x4096

end Cert.Enc

end
-- ==== Proof.Math.lean ====
/- The encoder's mathematics on the extended reals, one batch at a time: plain functions of plain
   indices, which the kernel's blocks and the reference's arrays are both shown to hold. -/
module

public import Idealize.ShloMosaic.Lib.Pointwise

@[expose] public section

noncomputable section

namespace Cert.Enc

open Idealize.ShloMosaic

/-- The sum of the products of two rows. -/
def dot {n : ℕ} (a b : Fin n → EReal) : EReal := ∑ i, a i * b i

/-- The greatest entry of a row, started from the pattern of minus infinity. -/
def top {n : ℕ} (s : Fin n → EReal) : EReal := Finset.univ.fold max (Ideal.ofBits .f32 0xFF800000#32) s

/-- The softmax of a row. -/
def soft {n : ℕ} (s : Fin n → EReal) (j : Fin n) : EReal :=
  Ideal.div (Ideal.exp (s j - top s)) (∑ k, Ideal.exp (s k - top s))

/-- The mean of a row whose length is the number `w` denotes. -/
def mean {n : ℕ} (w : BitVec 32) (z : Fin n → EReal) : EReal := Ideal.div (∑ i, z i) (Ideal.ofBits .f32 w)

/-- A row less its mean. -/
def center {n : ℕ} (w : BitVec 32) (z : Fin n → EReal) (i : Fin n) : EReal := z i - mean w z

/-- The mean of the squares of a centered row, and the small constant the normalization adds. -/
def spread {n : ℕ} (w : BitVec 32) (z : Fin n → EReal) : EReal :=
  mean w (fun i => center w z i * center w z i) + Ideal.ofBits .f32 0x3727C5AC#32

/-- The layer normalization of a row, with gain and offset. -/
def norm {n : ℕ} (w : BitVec 32) (g b z : Fin n → EReal) (i : Fin n) : EReal :=
  Ideal.div (center w z i) (Ideal.sqrt (spread w z)) * g i + b i

/-- The scale of the scores of 128 columns, `1/√128`. -/
def scaleD : EReal := (((Real.sqrt 128)⁻¹ : ℝ) : EReal)

/-- The scale of the scores of a head's 32 columns, `1/√32`. -/
def scaleH : EReal := (((Real.sqrt 32)⁻¹ : ℝ) : EReal)

/-- Attention: the softmax of row `r`'s scaled scores against all rows, applied to the values. -/
def att {n m d e : ℕ} (s : EReal) (q : Fin n → Fin d → EReal) (k : Fin m → Fin d → EReal) (v : Fin m → Fin e → EReal)
    (r : Fin n) (c : Fin e) : EReal :=
  ∑ j, soft (fun j => dot (q r) (k j) * s) j * v j c

/-- A linear map of a row, with offset. -/
def lin {n d : ℕ} (w : Fin n → Fin d → EReal) (b : Fin n → EReal) (y : Fin d → EReal) (c : Fin n) : EReal :=
  dot y (w c) + b c

/-- One layer's parameters. -/
structure LayerP where
  g1 : Fin 128 → EReal
  b1 : Fin 128 → EReal
  qkvw : Fin 384 → Fin 128 → EReal
  qkvb : Fin 384 → EReal
  ow : Fin 128 → Fin 128 → EReal
  ob : Fin 128 → EReal
  g2 : Fin 128 → EReal
  b2 : Fin 128 → EReal
  w1 : Fin 2048 → Fin 128 → EReal
  c1 : Fin 2048 → EReal
  w2 : Fin 128 → Fin 2048 → EReal
  c2 : Fin 128 → EReal

/-- Column `e` of head `h`, in the first, second or third 128 of the 384 columns. -/
def col (s : Fin 3) (h : Fin 4) (e : Fin 32) : Fin 384 := ⟨128 * s.val + 32 * h.val + e.val, by omega⟩

/-- Column `e` of head `h` among 128. -/
def colO (h : Fin 4) (e : Fin 32) : Fin 128 := ⟨32 * h.val + e.val, by omega⟩

/-- The rows' queries, keys and values, 384 columns. -/
def qkv (L : LayerP) (z : Fin 200 → Fin 128 → EReal) (r : Fin 200) : Fin 384 → EReal :=
  lin L.qkvw L.qkvb (norm 0x43000000#32 L.g1 L.b1 (z r))

/-- Head `h`'s output. -/
def head (L : LayerP) (z : Fin 200 → Fin 128 → EReal) (h : Fin 4) (r : Fin 200) (e : Fin 32) : EReal :=
  att scaleH (fun r e => qkv L z r (col 0 h e)) (fun r e => qkv L z r (col 1 h e)) (fun r e => qkv L z r (col 2 h e)) r e

/-- The output projection: the sum over the heads and their columns. -/
def proj (L : LayerP) (z : Fin 200 → Fin 128 → EReal) (r : Fin 200) (c : Fin 128) : EReal :=
  ∑ h : Fin 4, ∑ e : Fin 32, head L z h r e * L.ow c (colO h e)

/-- One layer's attention half. -/
def layA (L : LayerP) (z : Fin 200 → Fin 128 → EReal) (r : Fin 200) (c : Fin 128) : EReal :=
  z r c + proj L z r c + L.ob c

/-- A row's hidden feed-forward values. -/
def hid (L : LayerP) (y : Fin 128 → EReal) (f : Fin 2048) : EReal :=
  max (lin L.w1 L.c1 (norm 0x43000000#32 L.g2 L.b2 y) f) 0

/-- One layer's feed-forward half, on one row. -/
def layB (L : LayerP) (y : Fin 128 → EReal) (c : Fin 128) : EReal :=
  y c + dot (hid L y) (L.w2 c) + L.c2 c

/-- One layer. -/
def lay (L : LayerP) (z : Fin 200 → Fin 128 → EReal) (r : Fin 200) : Fin 128 → EReal := layB L (layA L z r)

/-- The parameters before and after the layers. -/
structure EncP where
  tw : Fin 128 → Fin 100 → EReal
  tb : Fin 128 → EReal
  wq : Fin 128 → Fin 128 → EReal
  bq : Fin 128 → EReal
  wk : Fin 128 → Fin 128 → EReal
  bk : Fin 128 → EReal
  l0 : LayerP
  l1 : LayerP
  qt : Fin 8 → Fin 128 → EReal
  pw : Fin 4096 → Fin 128 → EReal
  pb : Fin 4096 → EReal
  lg : Fin 4096 → EReal
  lb : Fin 4096 → EReal

/-- A batch's features. -/
def hrow (P : EncP) (x : Fin 100 → Fin 200 → EReal) (r : Fin 200) : Fin 128 → EReal :=
  lin P.tw P.tb fun t => x t r

/-- The graph step. -/
def gra (P : EncP) (x : Fin 100 → Fin 200 → EReal) : Fin 200 → Fin 128 → EReal :=
  att scaleD (fun r => lin P.wq P.bq (hrow P x r)) (fun r => lin P.wk P.bk (hrow P x r)) (hrow P x)

/-- The pooled rows and their embedding, from the rows the layers leave. -/
def emb (P : EncP) (z : Fin 200 → Fin 128 → EReal) (n : Fin 8) : Fin 4096 → EReal :=
  norm 0x45800000#32 P.lg P.lb (lin P.pw P.pb (att scaleD P.qt z z n))

/-- The whole encoder on one batch. -/
def enc (P : EncP) (x : Fin 100 → Fin 200 → EReal) : Fin 8 → Fin 4096 → EReal :=
  emb P (lay P.l1 (lay P.l0 (gra P x)))

end Cert.Enc

end
-- ==== Proof.BodyAt.lean ====
/- The body's named steps read at an index: each is the mathematics of Math.lean over its operands'
   elements. -/
module

public import proofs.«01_k».proof.Proof.Body
public import proofs.«01_k».proof.Proof.Math

@[expose] public section

set_option maxRecDepth 16384

noncomputable section

namespace Cert.Enc

open Cert.KernelIdeal Cert.KernelIdeal.Gen Idealize.ShloMosaic Idealize.SL.Sem

/-- Row `r` of group `g` among 1600 rows. -/
def row (g : Fin 8) (r : Fin 200) : Fin 1600 := ⟨200 * g.val + r.val, by omega⟩

/-- Column `e` of head `h` among 512 columns, 128 a head. -/
def colW (h : Fin 4) (e : Fin 128) : Fin 512 := ⟨128 * h.val + e.val, by omega⟩

/-- Row `n` of group `g` among 64 rows. -/
def rowQ (g : Fin 8) (n : Fin 8) : Fin 64 := ⟨8 * g.val + n.val, by omega⟩

theorem cat8_at {φ : FTy} (f : Fin 8 → FVec Ideal S200x128 φ) (g : Fin 8) (r : Fin 200) (c : Fin 128) :
    cat8 f (ix2 (row g r) c) = f g (ix2 r c) := by
  have hr := r.isLt
  pointwise [cat8, row]
  fin_vals g with hg <;> (repeat (first | rw [dif_pos (by omega)] | rw [dif_neg (by omega)])) <;> (congr 2 <;> first | exact Fin.ext hg.symm | (refine Fin.ext ?_; dsimp only; omega))

theorem cat8w_at (f : Fin 8 → FVec Ideal S200x512 .bf16) (g : Fin 8) (r : Fin 200) (c : Fin 512) :
    cat8w f (ix2 (row g r) c) = f g (ix2 r c) := by
  have hr := r.isLt
  pointwise [cat8w, row]
  fin_vals g with hg <;> (repeat (first | rw [dif_pos (by omega)] | rw [dif_neg (by omega)])) <;> (congr 2 <;> first | exact Fin.ext hg.symm | (refine Fin.ext ?_; dsimp only; omega))

theorem soft200_at (s : FVec Ideal S200x200 .f32) (r c : Fin 200) :
    soft200 s (ix2 r c) = soft (fun j => s (ix2 r j)) c := by
  pointwise [soft200]
  rfl

theorem soft8_at (s : FVec Ideal S8x200 .f32) (r : Fin 8) (c : Fin 200) :
    soft8 s (ix2 r c) = soft (fun j => s (ix2 r j)) c := by
  pointwise [soft8]
  rfl

theorem named_d : (Named.named κ "scale_d" 0x3DB504F3#32 : Ideal .f32) = scaleD :=
  IdealRules.named_const.ideal_named_scalar _ _ _ _ rfl

theorem named_h : (Named.named κ "scale_h" 0x3E3504F3#32 : Ideal .f32) = scaleH :=
  IdealRules.named_const.ideal_named_scalar _ _ _ _ rfl

theorem scores_at (s : Ideal .f32) (q k : FVec Ideal S200x128 .bf16) (r j : Fin 200) :
    scores s q k (ix2 r j) = dot (fun e => q (ix2 r e)) (fun e => k (ix2 j e)) * s := by
  pointwise [scores]
  rfl

theorem attend_at (s : Ideal .f32) (q k v : FVec Ideal S200x128 .bf16) (r : Fin 200) (c : Fin 128) :
    attend s q k v (ix2 r c) = att s (fun r e => q (ix2 r e)) (fun r e => k (ix2 r e)) (fun r e => v (ix2 r e)) r c := by
  pointwise [attend]
  simp only [soft200_at, scores_at]
  rfl

theorem scoresQ_at (q : FVec Ideal S8x128 .bf16) (z : FVec Ideal S200x128 .bf16) (n : Fin 8) (j : Fin 200) :
    scoresQ q z (ix2 n j) = dot (fun e => q (ix2 n e)) (fun e => z (ix2 j e)) * scaleD := by
  rw [← named_d]
  pointwise [scoresQ]
  rfl

theorem pooled_at (q : FVec Ideal S8x128 .bf16) (z : FVec Ideal S200x128 .bf16) (n : Fin 8) (c : Fin 128) :
    pooled q z (ix2 n c) = att scaleD (fun r e => q (ix2 r e)) (fun r e => z (ix2 r e)) (fun r e => z (ix2 r e)) n c := by
  pointwise [pooled]
  simp only [soft8_at, scoresQ_at]
  rfl

theorem feat_at (w : FVec Ideal S128x100 .f32) (x : FVec Ideal S1x100x200 .f32) (r : Fin 200) (c : Fin 128) :
    feat w x (ix2 r c) = dot (fun t => x (ix3 0 t r)) (fun t => w (ix2 c t)) := by
  pointwise [feat]
  rfl

theorem feats_at (w : FVec Ideal S128x100 .f32) (b : FVec Ideal S1x128 .f32) (x : Fin 8 → FVec Ideal S1x100x200 .f32)
    (g : Fin 8) (r : Fin 200) (c : Fin 128) :
    feats w b x (ix2 (row g r) c) = lin (fun c t => w (ix2 c t)) (fun c => b (ix2 0 c)) (fun t => x g (ix3 0 t r)) c := by
  have h : cat8 (fun g => feat w (x g)) (ix2 (row g r) c) = dot (fun t => x g (ix3 0 t r)) (fun t => w (ix2 c t)) := by
    rw [cat8_at, feat_at]
  unfold feats
  generalize cat8 _ = y at h ⊢
  pointwise
  rw [h]
  rfl

theorem lin128_at (y : FVec Ideal S1600x128 .bf16) (w : FVec Ideal S128x128 .f32) (b : FVec Ideal S1x128 .f32) (i : Fin 1600) (c : Fin 128) :
    lin128 y w b (ix2 i c) = lin (fun c d => w (ix2 c d)) (fun c => b (ix2 0 c)) (fun d => y (ix2 i d)) c := by
  pointwise [lin128]
  rfl

theorem lin512_at (y : FVec Ideal S1600x128 .bf16) (w : FVec Ideal S1x512x128 .f32) (b : FVec Ideal S1x512 .f32) (i : Fin 1600) (c : Fin 512) :
    lin512 y w b (ix2 i c) = lin (fun c d => w (ix3 0 c d)) (fun c => b (ix2 0 c)) (fun d => y (ix2 i d)) c := by
  pointwise [lin512]
  rfl

theorem rows_at (g : Fin 8) (x : FVec Ideal S1600x128 .bf16) (r : Fin 200) (c : Fin 128) :
    rows g x (ix2 r c) = x (ix2 (row g r) c) := by
  pointwise [rows]
  rfl

theorem rowsHead_at (g : Fin 8) (h : Fin 4) (x : FVec Ideal S1600x512 .bf16) (r : Fin 200) (c : Fin 128) :
    rowsHead g h x (ix2 r c) = x (ix2 (row g r) (colW h c)) := by
  pointwise [rowsHead]
  rfl

theorem graph_at (h q k : FVec Ideal S1600x128 .bf16) (g : Fin 8) (r : Fin 200) (c : Fin 128) :
    graph h q k (ix2 (row g r) c)
      = att scaleD (fun r e => q (ix2 (row g r) e)) (fun r e => k (ix2 (row g r) e)) (fun r e => h (ix2 (row g r) e)) r c := by
  rw [graph, cat8_at, attend_at, named_d]
  simp only [rows_at]

theorem cat4_at (f : Fin 4 → FVec Ideal S200x128 .bf16) (r : Fin 200) (h : Fin 4) (e : Fin 128) :
    cat4 f (ix2 r (colW h e)) = f h (ix2 r e) := by
  have he := e.isLt
  pointwise [cat4, colW]
  fin_vals h with hh <;> (repeat (first | rw [dif_pos (by omega)] | rw [dif_neg (by omega)])) <;> (congr 2 <;> first | exact Fin.ext hh.symm | (refine Fin.ext ?_; dsimp only; omega))

theorem heads_at (q k v : FVec Ideal S1600x512 .bf16) (g : Fin 8) (r : Fin 200) (h : Fin 4) (e : Fin 128) :
    heads q k v (ix2 (row g r) (colW h e))
      = att scaleH (fun r e => q (ix2 (row g r) (colW h e))) (fun r e => k (ix2 (row g r) (colW h e))) (fun r e => v (ix2 (row g r) (colW h e))) r e := by
  rw [heads, cat8w_at, cat4_at]
  refine (attend_at _ _ _ _ r e).trans ?_
  simp only [rowsHead_at, named_h]

end Cert.Enc

end
-- ==== Proof.NormAt.lean ====
/- The body's layer normalizations read at an index: the kernel multiplies by a reciprocal root, the
   mathematics divides by the root, and the two agree because a spread is positive. -/
module

public import proofs.«01_k».proof.Proof.BodyAt

@[expose] public section

set_option maxRecDepth 16384

noncomputable section

namespace Cert.Enc

open Cert.KernelIdeal Cert.KernelIdeal.Gen Idealize.ShloMosaic Idealize.SL.Sem

/-- Times the reciprocal root of a positive number is over its root. -/
theorem mul_rsqrt (a s : EReal) (hs : 0 < s) : a * Ideal.rsqrt s = Ideal.div a (Ideal.sqrt s) := by
  induction s using EReal.rec with
  | bot => simp at hs
  | top =>
    have h1 : Ideal.rsqrt ⊤ = 0 := rfl
    have h2 : Ideal.sqrt ⊤ = ⊤ := rfl
    rw [h1, h2, Ideal.div, if_neg (by simp), EReal.inv_top]
  | coe r =>
    have hr : 0 < r := by exact_mod_cast hs
    have h1 : Ideal.rsqrt (r : EReal) = ((Real.sqrt r)⁻¹ : ℝ) := by
      show (if r < 0 then ⊥ else if r = 0 then ⊤ else ((Real.sqrt r)⁻¹ : ℝ) : EReal) = _
      rw [if_neg (not_lt.mpr hr.le), if_neg hr.ne']
    have h2 : Ideal.sqrt (r : EReal) = (Real.sqrt r : EReal) := by
      show (if r < 0 then ⊥ else (Real.sqrt r : EReal) : EReal) = _
      rw [if_neg (not_lt.mpr hr.le)]
    have h3 : (Real.sqrt r : EReal) ≠ 0 := by
      exact_mod_cast (Real.sqrt_pos.mpr hr).ne'
    rw [h1, h2, Ideal.div, if_neg h3, EReal.coe_inv]

/-- A square is not negative. -/
theorem square_nonneg (x : EReal) : 0 ≤ x * x := by
  rcases le_total 0 x with h | h
  · exact mul_nonneg h h
  · rw [← neg_mul_neg]
    exact mul_nonneg (EReal.neg_nonneg.mpr h) (EReal.neg_nonneg.mpr h)

/-- A number over a positive number is not negative if the first is not. -/
theorem div_nonneg' (x y : EReal) (hx : 0 ≤ x) (hy : 0 < y) : 0 ≤ Ideal.div x y := by
  rw [Ideal.div, if_neg hy.ne']
  exact mul_nonneg hx (EReal.inv_nonneg_of_nonneg hy.le)

theorem pos_128 : 0 < Ideal.ofBits .f32 0x43000000#32 := by
  simp [Ideal.ofBits, Ideal.ieee, -EReal.coe_mul]

theorem pos_4096 : 0 < Ideal.ofBits .f32 0x45800000#32 := by
  simp [Ideal.ofBits, Ideal.ieee, -EReal.coe_mul]

theorem pos_eps : 0 < Ideal.ofBits .f32 0x3727C5AC#32 := by
  simp [Ideal.ofBits, Ideal.ieee, -EReal.coe_mul]

/-- A spread is positive. -/
theorem spread_pos {n : ℕ} (w : BitVec 32) (hw : 0 < Ideal.ofBits .f32 w) (z : Fin n → EReal) : 0 < spread w z :=
  pos_eps.trans_le (le_add_of_nonneg_left (div_nonneg' _ _ (Finset.sum_nonneg fun _ _ => square_nonneg _) hw))

theorem normed_at (z : FVec Ideal S1600x128 .f32) (g b : FVec Ideal S1x128 .f32) (i : Fin 1600) (c : Fin 128) :
    normed z g b (ix2 i c) = norm 0x43000000#32 (fun c => g (ix2 0 c)) (fun c => b (ix2 0 c)) (fun c => z (ix2 i c)) c := by
  rw [norm, ← mul_rsqrt _ _ (spread_pos _ pos_128 _)]
  pointwise [normed, means]
  rfl

theorem normedE_at (z : FVec Ideal S64x4096 .f32) (g b : FVec Ideal S1x4096 .f32) (i : Fin 64) (c : Fin 4096) :
    normedE z g b (ix2 i c) = norm 0x45800000#32 (fun c => g (ix2 0 c)) (fun c => b (ix2 0 c)) (fun c => z (ix2 i c)) c := by
  rw [norm, ← mul_rsqrt _ _ (spread_pos _ pos_4096 _)]
  pointwise [normedE, meansE]
  rfl

theorem addRow_at (z : FVec Ideal S1600x128 .f32) (b : FVec Ideal S1x128 .f32) (i : Fin 1600) (c : Fin 128) :
    addRow z b (ix2 i c) = z (ix2 i c) + b (ix2 0 c) := by
  pointwise [addRow]

theorem project_at (z : FVec Ideal S1600x128 .f32) (o : FVec Ideal S1600x512 .bf16) (w : FVec Ideal S1x128x512 .f32) (b : FVec Ideal S1x128 .f32)
    (i : Fin 1600) (c : Fin 128) :
    project z o w b (ix2 i c) = z (ix2 i c) + dot (fun k => o (ix2 i k)) (fun k => w (ix3 0 c k)) + b (ix2 0 c) := by
  rw [project, addRow_at]
  pointwise
  rfl

theorem hidden_at (y : FVec Ideal S1600x128 .bf16) (w : FVec Ideal S1x2048x128 .f32) (b : FVec Ideal S1x2048 .f32) (i : Fin 1600) (f : Fin 2048) :
    hidden y w b (ix2 i f) = max (lin (fun f d => w (ix3 0 f d)) (fun f => b (ix2 0 f)) (fun d => y (ix2 i d)) f) 0 := by
  pointwise [hidden]
  rfl

theorem feed_at (z : FVec Ideal S1600x128 .f32) (f : FVec Ideal S1600x2048 .bf16) (w : FVec Ideal S1x128x2048 .f32) (b : FVec Ideal S1x128 .f32)
    (i : Fin 1600) (c : Fin 128) :
    feed z f w b (ix2 i c) = z (ix2 i c) + dot (fun k => f (ix2 i k)) (fun k => w (ix3 0 c k)) + b (ix2 0 c) := by
  rw [feed, addRow_at]
  pointwise
  rfl

theorem cat8q_at (f : Fin 8 → FVec Ideal S8x128 .f32) (g : Fin 8) (r : Fin 8) (c : Fin 128) :
    cat8q f (ix2 (rowQ g r) c) = f g (ix2 r c) := by
  have hr := r.isLt
  pointwise [cat8q, rowQ]
  fin_vals g with hg <;> (repeat (first | rw [dif_pos (by omega)] | rw [dif_neg (by omega)])) <;> (congr 2 <;> first | exact Fin.ext hg.symm | (refine Fin.ext ?_; dsimp only; omega))

theorem pool_at (qt : FVec Ideal S1x8x128 .f32) (z : FVec Ideal S1600x128 .f32) (g n : Fin 8) (c : Fin 128) :
    pool qt z (ix2 (rowQ g n) c)
      = att scaleD (fun r e => qt (ix3 0 r e)) (fun r e => z (ix2 (row g r) e)) (fun r e => z (ix2 (row g r) e)) n c := by
  rw [pool, cat8q_at, pooled_at]
  simp only [rows_at]
  pointwise

theorem embed_at (p : FVec Ideal S64x128 .f32) (w : FVec Ideal S4096x128 .f32) (b : FVec Ideal S1x4096 .f32) (i : Fin 64) (c : Fin 4096) :
    embed p w b (ix2 i c) = lin (fun c d => w (ix2 c d)) (fun c => b (ix2 0 c)) (fun d => p (ix2 i d)) c := by
  pointwise [embed]
  rfl

theorem stored_at (g : Fin 8) (y : FVec Ideal S64x4096 .f32) (u : Fin 1) (n : Fin 8) (c : Fin 4096) :
    stored g y (ix3 u n c) = y (ix2 (rowQ g n) c) := by
  pointwise [stored]
  rfl

end Cert.Enc

end
-- ==== Proof.LayerAt.lean ====
/- The body's layers, its front and its back at an index: each is the mathematics of Math.lean, one
   group of 200 rows a batch, the padded columns of each head contributing nothing. -/
module

public import proofs.«01_k».proof.Proof.NormAt

@[expose] public section

set_option maxRecDepth 16384

noncomputable section

namespace Cert.Enc

open Cert.KernelIdeal Cert.KernelIdeal.Gen Idealize.ShloMosaic Idealize.SL.Sem

/-- A head's 32 columns continued by zeros to 128. -/
def pad32 (f : Fin 32 → EReal) (e : Fin 128) : EReal := if he : e.val < 32 then f ⟨e.val, he⟩ else 0

theorem pad32_low (f : Fin 32 → EReal) (e : Fin 32) : pad32 f (Fin.castAdd 96 e) = f e := dif_pos e.isLt

theorem pad32_high (f : Fin 32 → EReal) (e : Fin 96) : pad32 f (Fin.natAdd 32 e) = 0 := dif_neg (by simp)

/-- A sum against padded columns is the sum over the 32. -/
theorem dot_pad (a : Fin 128 → EReal) (f : Fin 32 → EReal) :
    dot a (pad32 f) = dot (fun e => a (Fin.castAdd 96 e)) f := by
  have h := Fin.sum_univ_add (a := 32) (b := 96) fun e : Fin (32 + 96) => a e * pad32 f e
  refine h.trans ?_
  simp only [pad32_low, pad32_high, mul_zero, Finset.sum_const_zero, add_zero]
  rfl

/-- A sum over 512 columns, head by head. -/
theorem sum_heads (f : Fin 512 → EReal) : ∑ k, f k = ∑ h : Fin 4, ∑ e : Fin 128, f (colW h e) := by
  rw [← Fintype.sum_prod_type' (fun h e => f (colW h e))]
  refine (Fintype.sum_equiv (finProdFinEquiv (m := 4) (n := 128)) _ _ fun p => ?_).symm
  congr 1
  exact Fin.ext (Nat.add_comm _ _)

/-- What one layer loads holds the layer's parameters, each head's 32 columns padded to 128. -/
structure Holds (L : LayerIn Ideal) (P : LayerP) : Prop where
  g1 : ∀ c, L.g1 (ix2 0 c) = P.g1 c
  b1 : ∀ c, L.b1 (ix2 0 c) = P.b1 c
  qw : ∀ h e d, L.qw (ix3 0 (colW h e) d) = pad32 (fun e => P.qkvw (col 0 h e) d) e
  qb : ∀ h e, L.qb (ix2 0 (colW h e)) = pad32 (fun e => P.qkvb (col 0 h e)) e
  kw : ∀ h e d, L.kw (ix3 0 (colW h e) d) = pad32 (fun e => P.qkvw (col 1 h e) d) e
  kb : ∀ h e, L.kb (ix2 0 (colW h e)) = pad32 (fun e => P.qkvb (col 1 h e)) e
  vw : ∀ h e d, L.vw (ix3 0 (colW h e) d) = pad32 (fun e => P.qkvw (col 2 h e) d) e
  vb : ∀ h e, L.vb (ix2 0 (colW h e)) = pad32 (fun e => P.qkvb (col 2 h e)) e
  ow : ∀ c h e, L.ow (ix3 0 c (colW h e)) = pad32 (fun e => P.ow c (colO h e)) e
  ob : ∀ c, L.ob (ix2 0 c) = P.ob c
  g2 : ∀ c, L.g2 (ix2 0 c) = P.g2 c
  b2 : ∀ c, L.b2 (ix2 0 c) = P.b2 c
  w1 : ∀ f d, L.w1 (ix3 0 f d) = P.w1 f d
  c1 : ∀ f, L.c1 (ix2 0 f) = P.c1 f
  w2 : ∀ c f, L.w2 (ix3 0 c f) = P.w2 c f
  c2 : ∀ c, L.c2 (ix2 0 c) = P.c2 c

/-- A linear map whose rows and offsets are padded gives padded values. -/
theorem lin_pad (s : Fin 3) (h : Fin 4) (w : FVec Ideal S1x512x128 .f32) (b : FVec Ideal S1x512 .f32)
    (W : Fin 384 → Fin 128 → EReal) (B : Fin 384 → EReal)
    (hw : ∀ h e d, w (ix3 0 (colW h e) d) = pad32 (fun e => W (col s h e) d) e)
    (hb : ∀ h e, b (ix2 0 (colW h e)) = pad32 (fun e => B (col s h e)) e) (y : Fin 128 → EReal) (e : Fin 128) :
    lin (fun c d => w (ix3 0 c d)) (fun c => b (ix2 0 c)) y (colW h e) = pad32 (fun e => lin W B y (col s h e)) e := by
  simp only [lin, dot, hw, hb]
  unfold pad32
  split
  · rfl
  · simp

/-- Attention over padded queries and keys, at one of the 32 columns of padded values. -/
theorem att_pad (s : EReal) (q k v : Fin 200 → Fin 32 → EReal) (r : Fin 200) (e : Fin 32) :
    att s (fun r => pad32 (q r)) (fun r => pad32 (k r)) (fun r => pad32 (v r)) r (Fin.castAdd 96 e) = att s q k v r e := by
  simp only [att, dot_pad, pad32_low]

/-- A group's rows. -/
def grp (z : FVec Ideal S1600x128 .f32) (g : Fin 8) (r : Fin 200) (c : Fin 128) : EReal := z (ix2 (row g r) c)

theorem layerA_at (L : LayerIn Ideal) (P : LayerP) (H : Holds L P) (z : FVec Ideal S1600x128 .f32) (g : Fin 8) :
    grp (layerA L z) g = layA P (grp z g) := by
  funext r c
  unfold grp layerA
  rw [project_at, H.ob, layA, proj]
  congr 2
  rw [dot, sum_heads]
  refine Finset.sum_congr rfl fun h _ => ?_
  simp only [H.ow]
  refine (dot_pad _ _).trans (Finset.sum_congr rfl fun e _ => ?_)
  congr 1
  dsimp only
  rw [heads_at]
  simp only [lin512_at, normed_at, H.g1, H.b1, lin_pad _ _ _ _ _ _ H.qw H.qb, lin_pad _ _ _ _ _ _ H.kw H.kb, lin_pad _ _ _ _ _ _ H.vw H.vb]
  exact att_pad _ _ _ _ r e

theorem layerB_at (L : LayerIn Ideal) (P : LayerP) (H : Holds L P) (z : FVec Ideal S1600x128 .f32) (g : Fin 8) (r : Fin 200) :
    grp (layerB L z) g r = layB P (grp z g r) := by
  funext c
  unfold grp layerB
  rw [feed_at]
  simp only [H.c2, hidden_at, normed_at, H.g2, H.b2, H.w1, H.c1, H.w2]
  rfl

theorem layer_at (L : LayerIn Ideal) (P : LayerP) (H : Holds L P) (z : FVec Ideal S1600x128 .f32) (g : Fin 8) :
    grp (layerB L (layerA L z)) g = lay P (grp z g) := by
  funext r
  rw [layerB_at L P H, layerA_at L P H]
  rfl

theorem front_at (tw : FVec Ideal S128x100 .f32) (tb : FVec Ideal S1x128 .f32) (wq : FVec Ideal S128x128 .f32) (bq : FVec Ideal S1x128 .f32)
    (wk : FVec Ideal S128x128 .f32) (bk : FVec Ideal S1x128 .f32) (x : Fin 8 → FVec Ideal S1x100x200 .f32) (P : EncP)
    (htw : ∀ c t, tw (ix2 c t) = P.tw c t) (htb : ∀ c, tb (ix2 0 c) = P.tb c) (hwq : ∀ c d, wq (ix2 c d) = P.wq c d) (hbq : ∀ c, bq (ix2 0 c) = P.bq c)
    (hwk : ∀ c d, wk (ix2 c d) = P.wk c d) (hbk : ∀ c, bk (ix2 0 c) = P.bk c) (g : Fin 8) :
    grp (front tw tb wq bq wk bk x) g = gra P fun t r => x g (ix3 0 t r) := by
  funext r c
  unfold grp front
  rw [graph_at]
  simp only [lin128_at, feats_at, htw, htb, hwq, hbq, hwk, hbk]
  rfl

theorem back_at (qt : FVec Ideal S1x8x128 .f32) (pw : FVec Ideal S4096x128 .f32) (pb lg lb : FVec Ideal S1x4096 .f32) (P : EncP)
    (hqt : ∀ n e, qt (ix3 0 n e) = P.qt n e) (hpw : ∀ c d, pw (ix2 c d) = P.pw c d) (hpb : ∀ c, pb (ix2 0 c) = P.pb c)
    (hlg : ∀ c, lg (ix2 0 c) = P.lg c) (hlb : ∀ c, lb (ix2 0 c) = P.lb c) (z : FVec Ideal S1600x128 .f32) (g n : Fin 8) (c : Fin 4096) :
    back qt pw pb lg lb z (ix2 (rowQ g n) c) = emb P (grp z g) n c := by
  unfold back
  rw [normedE_at]
  simp only [embed_at, pool_at, hqt, hpw, hpb, hlg, hlb]
  rfl

end Cert.Enc

end
-- ==== Proof.Blocks.lean ====
/- The values the body loads of a grid point's blocks, and the embedding rows of the point as a function of
   its blocks: the steps of Body.lean, layer by layer. -/
module

public import proofs.«01_k».proof.Proof.LayerAt
public import Idealize.ShloMosaic.Lib.Pipeline.ValueKit

@[expose] public section

set_option maxRecDepth 16384

noncomputable section

namespace Cert.Enc

open Cert.KernelIdeal Cert.KernelIdeal.Gen Idealize.ShloMosaic Idealize.SL.Sem

variable {F : FTy → Type} [FloatOps F] [Named F]

/-- Batch `g` of the block of signals. -/
def loadX (x : FVec F S8x100x200 .f32) (g : Fin 8) : FVec F S1x100x200 .f32 :=
  View.ld (Val := Elt F) (e' := .f32) x (Rect.unit (s := S8x100x200) ![g.val, 0, 0] S1x100x200.size (by revert g; decide))

/-- Layer `l`'s row of a 2 by 128 array. -/
def load128 (x : FVec F S2x128 .f32) (l : Fin 2) : FVec F S1x128 .f32 :=
  View.ld (Val := Elt F) (e' := .f32) x (Rect.unit (s := S2x128) ![l.val, 0] S1x128.size (by revert l; decide))

/-- Layer `l`'s row of a 2 by 512 array. -/
def load512 (x : FVec F S2x512 .f32) (l : Fin 2) : FVec F S1x512 .f32 :=
  View.ld (Val := Elt F) (e' := .f32) x (Rect.unit (s := S2x512) ![l.val, 0] S1x512.size (by revert l; decide))

/-- Layer `l`'s row of a 2 by 2048 array. -/
def load2048 (x : FVec F S2x2048 .f32) (l : Fin 2) : FVec F S1x2048 .f32 :=
  View.ld (Val := Elt F) (e' := .f32) x (Rect.unit (s := S2x2048) ![l.val, 0] S1x2048.size (by revert l; decide))

/-- Layer `l`'s slice of a 2 by 512 by 128 array. -/
def load512x128 (x : FVec F S2x512x128 .f32) (l : Fin 2) : FVec F S1x512x128 .f32 :=
  View.ld (Val := Elt F) (e' := .f32) x (Rect.unit (s := S2x512x128) ![l.val, 0, 0] S1x512x128.size (by revert l; decide))

/-- Layer `l`'s slice of a 2 by 128 by 512 array. -/
def load128x512 (x : FVec F S2x128x512 .f32) (l : Fin 2) : FVec F S1x128x512 .f32 :=
  View.ld (Val := Elt F) (e' := .f32) x (Rect.unit (s := S2x128x512) ![l.val, 0, 0] S1x128x512.size (by revert l; decide))

/-- Layer `l`'s slice of a 2 by 2048 by 128 array. -/
def load2048x128 (x : FVec F S2x2048x128 .f32) (l : Fin 2) : FVec F S1x2048x128 .f32 :=
  View.ld (Val := Elt F) (e' := .f32) x (Rect.unit (s := S2x2048x128) ![l.val, 0, 0] S1x2048x128.size (by revert l; decide))

/-- Layer `l`'s slice of a 2 by 128 by 2048 array. -/
def load128x2048 (x : FVec F S2x128x2048 .f32) (l : Fin 2) : FVec F S1x128x2048 .f32 :=
  View.ld (Val := Elt F) (e' := .f32) x (Rect.unit (s := S2x128x2048) ![l.val, 0, 0] S1x128x2048.size (by revert l; decide))

/-- A whole 128 by 100 array loaded. -/
def load128x100 (x : FVec F S128x100 .f32) : FVec F S128x100 .f32 :=
  View.ld (Val := Elt F) (e' := .f32) x (Rect.unit (s := S128x100) ![0, 0] S128x100.size inb_S128x100_S128x100_0_0)

/-- A whole 128 by 128 array loaded. -/
def load128x128 (x : FVec F S128x128 .f32) : FVec F S128x128 .f32 :=
  View.ld (Val := Elt F) (e' := .f32) x (Rect.unit (s := S128x128) ![0, 0] S128x128.size inb_S128x128_S128x128_0_0)

/-- A whole row of 128 loaded. -/
def load1x128 (x : FVec F S1x128 .f32) : FVec F S1x128 .f32 :=
  View.ld (Val := Elt F) (e' := .f32) x (Rect.unit (s := S1x128) ![0, 0] S1x128.size inb_S1x128_S1x128_0_0)

/-- A whole 4096 by 128 array loaded. -/
def load4096x128 (x : FVec F S4096x128 .f32) : FVec F S4096x128 .f32 :=
  View.ld (Val := Elt F) (e' := .f32) x (Rect.unit (s := S4096x128) ![0, 0] S4096x128.size inb_S4096x128_S4096x128_0_0)

/-- A whole row of 4096 loaded. -/
def load1x4096 (x : FVec F S1x4096 .f32) : FVec F S1x4096 .f32 :=
  View.ld (Val := Elt F) (e' := .f32) x (Rect.unit (s := S1x4096) ![0, 0] S1x4096.size inb_S1x4096_S1x4096_0_0)

/-- The query tokens loaded. -/
def load1x8x128 (x : FVec F S1x8x128 .f32) : FVec F S1x8x128 .f32 :=
  View.ld (Val := Elt F) (e' := .f32) x (Rect.unit (s := S1x8x128) ![0, 0, 0] S1x8x128.size inb_S1x8x128_S1x8x128_0_0_0)

/-- The blocks of a grid point: one for each input. -/
structure Blocks (F : FTy → Type) [FloatOps F] where
  x : FVec F S8x100x200 .f32
  tw : FVec F S128x100 .f32
  tb : FVec F S1x128 .f32
  wq : FVec F S128x128 .f32
  bq : FVec F S1x128 .f32
  wk : FVec F S128x128 .f32
  bk : FVec F S1x128 .f32
  g1 : FVec F S2x128 .f32
  b1 : FVec F S2x128 .f32
  qw : FVec F S2x512x128 .f32
  qb : FVec F S2x512 .f32
  kw : FVec F S2x512x128 .f32
  kb : FVec F S2x512 .f32
  vw : FVec F S2x512x128 .f32
  vb : FVec F S2x512 .f32
  ow : FVec F S2x128x512 .f32
  ob : FVec F S2x128 .f32
  g2 : FVec F S2x128 .f32
  b2 : FVec F S2x128 .f32
  w1 : FVec F S2x2048x128 .f32
  c1 : FVec F S2x2048 .f32
  w2 : FVec F S2x128x2048 .f32
  c2 : FVec F S2x128 .f32
  pw : FVec F S4096x128 .f32
  pb : FVec F S1x4096 .f32
  lg : FVec F S1x4096 .f32
  lb : FVec F S1x4096 .f32
  qt : FVec F S1x8x128 .f32

/-- What layer `l` loads of the blocks. -/
def Blocks.layer (B : Blocks F) (l : Fin 2) : LayerIn F where
  g1 := load128 B.g1 l
  b1 := load128 B.b1 l
  qw := load512x128 B.qw l
  qb := load512 B.qb l
  kw := load512x128 B.kw l
  kb := load512 B.kb l
  vw := load512x128 B.vw l
  vb := load512 B.vb l
  ow := load128x512 B.ow l
  ob := load128 B.ob l
  g2 := load128 B.g2 l
  b2 := load128 B.b2 l
  w1 := load2048x128 B.w1 l
  c1 := load2048 B.c1 l
  w2 := load128x2048 B.w2 l
  c2 := load128 B.c2 l

/-- The rows after the graph step. -/
def Blocks.front (B : Blocks F) : FVec F S1600x128 .f32 :=
  Cert.Enc.front (load128x100 B.tw) (load1x128 B.tb) (load128x128 B.wq) (load1x128 B.bq) (load128x128 B.wk) (load1x128 B.bk) (loadX B.x)

/-- The rows after layer `l`, from those before it. -/
def Blocks.step (B : Blocks F) (l : Fin 2) (z : FVec F S1600x128 .f32) : FVec F S1600x128 .f32 :=
  layerB (B.layer l) (layerA (B.layer l) z)

/-- The embedding rows. -/
def Blocks.rows (B : Blocks F) : FVec F S64x4096 .f32 :=
  back (load1x8x128 B.qt) (load4096x128 B.pw) (load1x4096 B.pb) (load1x4096 B.lg) (load1x4096 B.lb) (B.step 1 (B.step 0 B.front))

/-! ## The loads at an index -/

section At

theorem hz2 : (![0, 0] : Fin 2 → ℕ) = fun _ => 0 := by decide

theorem hz3 : (![0, 0, 0] : Fin 3 → ℕ) = fun _ => 0 := by decide

theorem loadX_at (x : FVec F S8x100x200 .f32) (g : Fin 8) (t : Fin 100) (r : Fin 200) : loadX x g (ix3 0 t r) = x (ix3 g t r) := by
  unfold loadX; pointwise

theorem load128_at (x : FVec F S2x128 .f32) (l : Fin 2) (c : Fin 128) : load128 x l (ix2 0 c) = x (ix2 l c) := by
  unfold load128; pointwise

theorem load512_at (x : FVec F S2x512 .f32) (l : Fin 2) (c : Fin 512) : load512 x l (ix2 0 c) = x (ix2 l c) := by
  unfold load512; pointwise

theorem load2048_at (x : FVec F S2x2048 .f32) (l : Fin 2) (c : Fin 2048) : load2048 x l (ix2 0 c) = x (ix2 l c) := by
  unfold load2048; pointwise

theorem load512x128_at (x : FVec F S2x512x128 .f32) (l : Fin 2) (c : Fin 512) (d : Fin 128) : load512x128 x l (ix3 0 c d) = x (ix3 l c d) := by
  unfold load512x128; pointwise

theorem load128x512_at (x : FVec F S2x128x512 .f32) (l : Fin 2) (c : Fin 128) (d : Fin 512) : load128x512 x l (ix3 0 c d) = x (ix3 l c d) := by
  unfold load128x512; pointwise

theorem load2048x128_at (x : FVec F S2x2048x128 .f32) (l : Fin 2) (c : Fin 2048) (d : Fin 128) : load2048x128 x l (ix3 0 c d) = x (ix3 l c d) := by
  unfold load2048x128; pointwise

theorem load128x2048_at (x : FVec F S2x128x2048 .f32) (l : Fin 2) (c : Fin 128) (d : Fin 2048) : load128x2048 x l (ix3 0 c d) = x (ix3 l c d) := by
  unfold load128x2048; pointwise

theorem load128x100_eq (x : FVec F S128x100 .f32) : load128x100 x = x := by
  unfold load128x100
  exact View.ld_unit_zero (Val := Elt F) (e := .f32) (S := S128x100) hz2 _ x

theorem load128x128_eq (x : FVec F S128x128 .f32) : load128x128 x = x := by
  unfold load128x128
  exact View.ld_unit_zero (Val := Elt F) (e := .f32) (S := S128x128) hz2 _ x

theorem load1x128_eq (x : FVec F S1x128 .f32) : load1x128 x = x := by
  unfold load1x128
  exact View.ld_unit_zero (Val := Elt F) (e := .f32) (S := S1x128) hz2 _ x

theorem load4096x128_eq (x : FVec F S4096x128 .f32) : load4096x128 x = x := by
  unfold load4096x128
  exact View.ld_unit_zero (Val := Elt F) (e := .f32) (S := S4096x128) hz2 _ x

theorem load1x4096_eq (x : FVec F S1x4096 .f32) : load1x4096 x = x := by
  unfold load1x4096
  exact View.ld_unit_zero (Val := Elt F) (e := .f32) (S := S1x4096) hz2 _ x

theorem load1x8x128_eq (x : FVec F S1x8x128 .f32) : load1x8x128 x = x := by
  unfold load1x8x128
  exact View.ld_unit_zero (Val := Elt F) (e := .f32) (S := S1x8x128) hz3 _ x

end At

/-- Layer `l`'s parameters. -/
def EncP.layer (P : EncP) (l : Fin 2) : LayerP := if l = 0 then P.l0 else P.l1

/-- A point's blocks hold the parameters, each head's 32 columns padded to 128. -/
structure BlocksHold (B : Blocks Ideal) (P : EncP) : Prop where
  tw : ∀ c t, B.tw (ix2 c t) = P.tw c t
  tb : ∀ c, B.tb (ix2 0 c) = P.tb c
  wq : ∀ c d, B.wq (ix2 c d) = P.wq c d
  bq : ∀ c, B.bq (ix2 0 c) = P.bq c
  wk : ∀ c d, B.wk (ix2 c d) = P.wk c d
  bk : ∀ c, B.bk (ix2 0 c) = P.bk c
  g1 : ∀ l c, B.g1 (ix2 l c) = (P.layer l).g1 c
  b1 : ∀ l c, B.b1 (ix2 l c) = (P.layer l).b1 c
  qw : ∀ l h e d, B.qw (ix3 l (colW h e) d) = pad32 (fun e => (P.layer l).qkvw (col 0 h e) d) e
  qb : ∀ l h e, B.qb (ix2 l (colW h e)) = pad32 (fun e => (P.layer l).qkvb (col 0 h e)) e
  kw : ∀ l h e d, B.kw (ix3 l (colW h e) d) = pad32 (fun e => (P.layer l).qkvw (col 1 h e) d) e
  kb : ∀ l h e, B.kb (ix2 l (colW h e)) = pad32 (fun e => (P.layer l).qkvb (col 1 h e)) e
  vw : ∀ l h e d, B.vw (ix3 l (colW h e) d) = pad32 (fun e => (P.layer l).qkvw (col 2 h e) d) e
  vb : ∀ l h e, B.vb (ix2 l (colW h e)) = pad32 (fun e => (P.layer l).qkvb (col 2 h e)) e
  ow : ∀ l c h e, B.ow (ix3 l c (colW h e)) = pad32 (fun e => (P.layer l).ow c (colO h e)) e
  ob : ∀ l c, B.ob (ix2 l c) = (P.layer l).ob c
  g2 : ∀ l c, B.g2 (ix2 l c) = (P.layer l).g2 c
  b2 : ∀ l c, B.b2 (ix2 l c) = (P.layer l).b2 c
  w1 : ∀ l f d, B.w1 (ix3 l f d) = (P.layer l).w1 f d
  c1 : ∀ l f, B.c1 (ix2 l f) = (P.layer l).c1 f
  w2 : ∀ l c f, B.w2 (ix3 l c f) = (P.layer l).w2 c f
  c2 : ∀ l c, B.c2 (ix2 l c) = (P.layer l).c2 c
  pw : ∀ c d, B.pw (ix2 c d) = P.pw c d
  pb : ∀ c, B.pb (ix2 0 c) = P.pb c
  lg : ∀ c, B.lg (ix2 0 c) = P.lg c
  lb : ∀ c, B.lb (ix2 0 c) = P.lb c
  qt : ∀ n d, B.qt (ix3 0 n d) = P.qt n d

theorem BlocksHold.layer {B : Blocks Ideal} {P : EncP} (H : BlocksHold B P) (l : Fin 2) : Holds (B.layer l) (P.layer l) where
  g1 c := (load128_at _ l c).trans (H.g1 l c)
  b1 c := (load128_at _ l c).trans (H.b1 l c)
  qw h e d := (load512x128_at _ l _ d).trans (H.qw l h e d)
  qb h e := (load512_at _ l _).trans (H.qb l h e)
  kw h e d := (load512x128_at _ l _ d).trans (H.kw l h e d)
  kb h e := (load512_at _ l _).trans (H.kb l h e)
  vw h e d := (load512x128_at _ l _ d).trans (H.vw l h e d)
  vb h e := (load512_at _ l _).trans (H.vb l h e)
  ow c h e := (load128x512_at _ l c _).trans (H.ow l c h e)
  ob c := (load128_at _ l c).trans (H.ob l c)
  g2 c := (load128_at _ l c).trans (H.g2 l c)
  b2 c := (load128_at _ l c).trans (H.b2 l c)
  w1 f d := (load2048x128_at _ l f d).trans (H.w1 l f d)
  c1 f := (load2048_at _ l f).trans (H.c1 l f)
  w2 c f := (load128x2048_at _ l c f).trans (H.w2 l c f)
  c2 c := (load128_at _ l c).trans (H.c2 l c)

/-- The embedding rows of group `g` are the encoder of the group's batch. -/
theorem BlocksHold.rows_at {B : Blocks Ideal} {P : EncP} (H : BlocksHold B P) (g n : Fin 8) (c : Fin 4096) :
    B.rows (ix2 (rowQ g n) c) = enc P (fun t r => B.x (ix3 g t r)) n c := by
  unfold Blocks.rows Blocks.step
  rw [back_at _ _ _ _ _ P (by rw [load1x8x128_eq]; exact H.qt) (by rw [load4096x128_eq]; exact H.pw) (by rw [load1x4096_eq]; exact H.pb)
    (by rw [load1x4096_eq]; exact H.lg) (by rw [load1x4096_eq]; exact H.lb), layer_at _ _ (H.layer 1), layer_at _ _ (H.layer 0)]
  unfold Blocks.front
  rw [front_at _ _ _ _ _ _ _ P (by rw [load128x100_eq]; exact H.tw) (by rw [load1x128_eq]; exact H.tb) (by rw [load128x128_eq]; exact H.wq)
    (by rw [load1x128_eq]; exact H.bq) (by rw [load128x128_eq]; exact H.wk) (by rw [load1x128_eq]; exact H.bk)]
  simp only [loadX_at]
  rfl

end Cert.Enc

end
-- ==== Proof.Args.lean ====
/- The encoder's parameters read from its argument arrays. -/
module

public import proofs.«01_k».proof.Proof.Blocks

@[expose] public section

set_option maxRecDepth 16384

noncomputable section

namespace Cert.Enc

open Cert.KernelIdeal Cert.KernelIdeal.Gen Idealize.ShloMosaic Idealize.SL.Sem

/-- The argument arrays. -/
structure Args where
  x : FVec Ideal S16x100x200 .f32
  tw : FVec Ideal S128x100 .f32
  tb : FVec Ideal S128 .f32
  wq : FVec Ideal S128x128 .f32
  bq : FVec Ideal S128 .f32
  wk : FVec Ideal S128x128 .f32
  bk : FVec Ideal S128 .f32
  g1 : FVec Ideal S2x128 .f32
  b1 : FVec Ideal S2x128 .f32
  qkvw : FVec Ideal S2x384x128 .f32
  qkvb : FVec Ideal S2x384 .f32
  ow : FVec Ideal S2x128x128 .f32
  ob : FVec Ideal S2x128 .f32
  g2 : FVec Ideal S2x128 .f32
  b2 : FVec Ideal S2x128 .f32
  w1 : FVec Ideal S2x2048x128 .f32
  c1 : FVec Ideal S2x2048 .f32
  w2 : FVec Ideal S2x128x2048 .f32
  c2 : FVec Ideal S2x128 .f32
  pw : FVec Ideal S4096x128 .f32
  pb : FVec Ideal S4096 .f32
  lg : FVec Ideal S4096 .f32
  lb : FVec Ideal S4096 .f32
  qt : FVec Ideal S1x8x128 .f32

/-- Layer `l`'s parameters. -/
def Args.lay (A : Args) (l : Fin 2) : LayerP where
  g1 c := A.g1 (ix2 l c)
  b1 c := A.b1 (ix2 l c)
  qkvw c d := A.qkvw (ix3 l c d)
  qkvb c := A.qkvb (ix2 l c)
  ow c d := A.ow (ix3 l c d)
  ob c := A.ob (ix2 l c)
  g2 c := A.g2 (ix2 l c)
  b2 c := A.b2 (ix2 l c)
  w1 f d := A.w1 (ix3 l f d)
  c1 f := A.c1 (ix2 l f)
  w2 c f := A.w2 (ix3 l c f)
  c2 c := A.c2 (ix2 l c)

/-- The encoder's parameters. -/
def Args.enc (A : Args) : EncP where
  tw c t := A.tw (ix2 c t)
  tb c := A.tb (ix1 c)
  wq c d := A.wq (ix2 c d)
  bq c := A.bq (ix1 c)
  wk c d := A.wk (ix2 c d)
  bk c := A.bk (ix1 c)
  l0 := A.lay 0
  l1 := A.lay 1
  qt n d := A.qt (ix3 0 n d)
  pw c d := A.pw (ix2 c d)
  pb c := A.pb (ix1 c)
  lg c := A.lg (ix1 c)
  lb c := A.lb (ix1 c)

theorem Args.enc_layer (A : Args) (l : Fin 2) : A.enc.layer l = A.lay l := by
  fin_cases l <;> rfl

/-- The embedding of batch `b`, row `n`. -/
def Args.out (A : Args) (b : Fin 16) (n : Fin 8) (c : Fin 4096) : EReal :=
  Cert.Enc.enc A.enc (fun t r => A.x (ix3 b t r)) n c

end Cert.Enc

end
-- ==== Proof.Point.lean ====
/- What the body stores at a grid point: its eight stores are the eight groups of the embedding rows
   that the steps of Body.lean compute from the point's blocks. -/
module

public import proofs.«01_k».proof.Proof.FrameIdeal
public import proofs.«01_k».proof.Proof.Blocks

@[expose] public section

set_option maxRecDepth 16384

noncomputable section

namespace Cert.Enc

open Cert.KernelIdeal Cert.KernelIdeal.Gen Idealize.ShloMosaic Idealize.SL.Sem

variable {F : FTy → Type} [FloatOps F] [Named F]

/-- The stores, the last first. -/
def pieces (y : FVec F S64x4096 .f32) : List (View.Piece (Elt F) S8x8x4096 .f32) :=
  [⟨Rect.unit (s := S8x8x4096) ![7, 0, 0] S1x8x4096.size inb_S8x8x4096_S1x8x4096_7_0_0, stored 7 y⟩,
   ⟨Rect.unit (s := S8x8x4096) ![6, 0, 0] S1x8x4096.size inb_S8x8x4096_S1x8x4096_6_0_0, stored 6 y⟩,
   ⟨Rect.unit (s := S8x8x4096) ![5, 0, 0] S1x8x4096.size inb_S8x8x4096_S1x8x4096_5_0_0, stored 5 y⟩,
   ⟨Rect.unit (s := S8x8x4096) ![4, 0, 0] S1x8x4096.size inb_S8x8x4096_S1x8x4096_4_0_0, stored 4 y⟩,
   ⟨Rect.unit (s := S8x8x4096) ![3, 0, 0] S1x8x4096.size inb_S8x8x4096_S1x8x4096_3_0_0, stored 3 y⟩,
   ⟨Rect.unit (s := S8x8x4096) ![2, 0, 0] S1x8x4096.size inb_S8x8x4096_S1x8x4096_2_0_0, stored 2 y⟩,
   ⟨Rect.unit (s := S8x8x4096) ![1, 0, 0] S1x8x4096.size inb_S8x8x4096_S1x8x4096_1_0_0, stored 1 y⟩,
   ⟨Rect.unit (s := S8x8x4096) ![0, 0, 0] S1x8x4096.size inb_S8x8x4096_S1x8x4096_0_0_0, stored 0 y⟩]

variable (m : (ℓ : Loc nD τ sig) → Buf (Elt F) ℓ)

/-- The blocks the pipeline fetches for point `t`. -/
def fetched (c : Dev nD) (t : Fin cfg0.N) : Blocks F where
  x := iblk m c 0 t
  tw := iblk m c 1 t
  tb := iblk m c 2 t
  wq := iblk m c 3 t
  bq := iblk m c 4 t
  wk := iblk m c 5 t
  bk := iblk m c 6 t
  g1 := iblk m c 7 t
  b1 := iblk m c 8 t
  qw := iblk m c 9 t
  qb := iblk m c 10 t
  kw := iblk m c 11 t
  kb := iblk m c 12 t
  vw := iblk m c 13 t
  vb := iblk m c 14 t
  ow := iblk m c 15 t
  ob := iblk m c 16 t
  g2 := iblk m c 17 t
  b2 := iblk m c 18 t
  w1 := iblk m c 19 t
  c1 := iblk m c 20 t
  w2 := iblk m c 21 t
  c2 := iblk m c 22 t
  pw := iblk m c 23 t
  pb := iblk m c 24 t
  lg := iblk m c 25 t
  lb := iblk m c 26 t
  qt := iblk m c 27 t

set_option maxHeartbeats 8000000 in
/-- The stores at point `t` are the groups of the embedding rows of the blocks fetched for it. -/
theorem point_eq (c : Dev nD) (t : Fin cfg0.N) : (Cert.KernelIdeal.Hand.point m c t).1 = pieces (fetched m c t).rows := by
  unfold Cert.KernelIdeal.Hand.point Cert.KernelIdeal.Hand.kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_9 t).read_unread, (hs0_10 t).read_unread, (hs0_11 t).read_unread, (hs0_12 t).read_unread, (hs0_13 t).read_unread,
    (hs0_14 t).read_unread, (hs0_15 t).read_unread, (hs0_16 t).read_unread, (hs0_17 t).read_unread, (hs0_18 t).read_unread,
    (hs0_19 t).read_unread, (hs0_20 t).read_unread, (hs0_21 t).read_unread, (hs0_22 t).read_unread, (hs0_23 t).read_unread,
    (hs0_24 t).read_unread, (hs0_25 t).read_unread, (hs0_26 t).read_unread, (hs0_27 t).read_unread]
  sl_kernel_rfl

end Cert.Enc

end
-- ==== Proof.FetchedAt.lean ====
/- What the pipeline fetches, at an index: the encoder's parameters, the heads padded from 32 columns to 128. -/
module

public import proofs.«01_k».proof.Proof.Args
public import proofs.«01_k».proof.Proof.Point
public import Idealize.ShloMosaic.Lib.Pipeline.ValueKit
public import Idealize.ShloMosaic.Lib.Claim
public import Idealize.ShloMosaic.Lib.StableHlo.ReadAt
public import Idealize.ShloMosaic.Lib.Tactic.WordOmega

@[expose] public section

set_option maxRecDepth 16384

noncomputable section

namespace Cert.Enc

open Cert.KernelIdeal Cert.KernelIdeal.Gen Idealize.ShloMosaic Idealize.ShloMosaic.TcCoe Idealize.SL.Sem

variable (m : (ℓ : Loc nD τ sig) → Buf (Elt Ideal) ℓ)

/-- Core `c`'s arguments. -/
def args (c : Dev nD) : Args where
  x := m ((c : Thread nD τ).loc main_arg0)
  tw := m ((c : Thread nD τ).loc main_arg1)
  tb := m ((c : Thread nD τ).loc main_arg2)
  wq := m ((c : Thread nD τ).loc main_arg3)
  bq := m ((c : Thread nD τ).loc main_arg4)
  wk := m ((c : Thread nD τ).loc main_arg5)
  bk := m ((c : Thread nD τ).loc main_arg6)
  g1 := m ((c : Thread nD τ).loc main_arg7)
  b1 := m ((c : Thread nD τ).loc main_arg8)
  qkvw := m ((c : Thread nD τ).loc main_arg9)
  qkvb := m ((c : Thread nD τ).loc main_arg10)
  ow := m ((c : Thread nD τ).loc main_arg11)
  ob := m ((c : Thread nD τ).loc main_arg12)
  g2 := m ((c : Thread nD τ).loc main_arg13)
  b2 := m ((c : Thread nD τ).loc main_arg14)
  w1 := m ((c : Thread nD τ).loc main_arg15)
  c1 := m ((c : Thread nD τ).loc main_arg16)
  w2 := m ((c : Thread nD τ).loc main_arg17)
  c2 := m ((c : Thread nD τ).loc main_arg18)
  pw := m ((c : Thread nD τ).loc main_arg19)
  pb := m ((c : Thread nD τ).loc main_arg20)
  lg := m ((c : Thread nD τ).loc main_arg21)
  lb := m ((c : Thread nD τ).loc main_arg22)
  qt := m ((c : Thread nD τ).loc main_arg23)

theorem idx0 : ∀ t : Fin cfg0.N, win0_0.index t = ![t.val, 0, 0] := (by decide +kernel : ∀ t : Fin grid0.N, _)

/-- Every other input is one block. -/
theorem idxA : ∀ t : Fin cfg0.N, win0_1.index t = ![0, 0] ∧ win0_2.index t = ![0, 0] ∧ win0_3.index t = ![0, 0] ∧ win0_4.index t = ![0, 0]
    ∧ win0_5.index t = ![0, 0] ∧ win0_6.index t = ![0, 0] ∧ win0_7.index t = ![0, 0] ∧ win0_8.index t = ![0, 0] :=
  (by decide +kernel : ∀ t : Fin grid0.N, _)

theorem idxB : ∀ t : Fin cfg0.N, win0_9.index t = ![0, 0, 0] ∧ win0_10.index t = ![0, 0] ∧ win0_11.index t = ![0, 0, 0]
    ∧ win0_12.index t = ![0, 0] ∧ win0_13.index t = ![0, 0, 0] ∧ win0_14.index t = ![0, 0] ∧ win0_15.index t = ![0, 0, 0] :=
  (by decide +kernel : ∀ t : Fin grid0.N, _)

theorem idxC : ∀ t : Fin cfg0.N, win0_16.index t = ![0, 0] ∧ win0_17.index t = ![0, 0] ∧ win0_18.index t = ![0, 0]
    ∧ win0_19.index t = ![0, 0, 0] ∧ win0_20.index t = ![0, 0] ∧ win0_21.index t = ![0, 0, 0] ∧ win0_22.index t = ![0, 0] :=
  (by decide +kernel : ∀ t : Fin grid0.N, _)

theorem idxD : ∀ t : Fin cfg0.N, win0_23.index t = ![0, 0] ∧ win0_24.index t = ![0, 0] ∧ win0_25.index t = ![0, 0]
    ∧ win0_26.index t = ![0, 0] ∧ win0_27.index t = ![0, 0, 0] := (by decide +kernel : ∀ t : Fin grid0.N, _)

theorem x_at (c : Dev nD) (t : Fin cfg0.N) (g : Fin 8) (i : Fin 100) (r : Fin 200) (b : Fin 16) (hb : b.val = 8 * t.val + g.val) :
    (fetched m c t).x (ix3 g i r) = (args m c).x (ix3 b i r) := by
  unfold fetched args
  dsimp only
  blk_ext [iblk, V, idx0 t]

/-- Reading a padded head: inside the head's 32 columns the operand, outside zero. -/
theorem padded (f : Fin 32 → EReal) (e : Fin 128) (p : Prop) [Decidable p] (x : p → EReal) (hp : p ↔ e.val < 32)
    (hx : ∀ (h : p) (he : e.val < 32), x h = f ⟨e.val, he⟩) :
    (if h : p then x h else (FloatOps.sitofp FTy.f32 (0#32) : Ideal .f32)) = pad32 f e := by
  unfold pad32
  by_cases he : e.val < 32
  · rw [dif_pos (hp.mpr he), dif_pos he]
    exact hx _ he
  · rw [dif_neg fun h => he (hp.mp h), dif_neg he]
    show (((0#32 : BitVec 32).toInt : ℝ) : EReal) = 0
    simp

theorem colW_div (h : Fin 4) (e : Fin 128) : (colW h e).val / 128 = h.val := by unfold colW; dsimp only; omega

theorem colW_mod (h : Fin 4) (e : Fin 128) : (colW h e).val % 128 = e.val := by unfold colW; dsimp only; omega

theorem inHead (h : Fin 4) (e : Fin 128) : (colW h e).val / 128 < 4 ∧ (colW h e).val % 128 < 32 ↔ e.val < 32 := by
  rw [colW_div, colW_mod]
  exact ⟨fun p => p.2, fun p => ⟨h.isLt, p⟩⟩

/-- The operand's column inside a head. -/
theorem headCol (h : Fin 4) (e : Fin 128) : (colW h e).val / 128 * 32 + (colW h e).val % 128 = 32 * h.val + e.val := by
  rw [colW_div, colW_mod]
  omega

theorem qw_entry (c : Dev nD) (l : Fin 2) (h : Fin 4) (e d : Fin 128) :
    (V m c main_v3 : FVec Ideal S2x512x128 .f32) (ix3 l (colW h e) d) = pad32 (fun e => (args m c).qkvw (ix3 l (col 0 h e) d)) e := by
  unfold V args
  after_reads_at
  refine padded _ e _ _ (inHead h e) fun p he => congrArg (fun j => m ((c : Thread nD τ).loc main_arg9) (ix3 l j d)) (Fin.ext ?_)
  show (colW h e).val / 128 * 32 + (colW h e).val % 128 = 128 * 0 + 32 * h.val + e.val
  rw [headCol]
  omega

theorem kw_entry (c : Dev nD) (l : Fin 2) (h : Fin 4) (e d : Fin 128) :
    (V m c main_v7 : FVec Ideal S2x512x128 .f32) (ix3 l (colW h e) d) = pad32 (fun e => (args m c).qkvw (ix3 l (col 1 h e) d)) e := by
  unfold V args
  after_reads_at
  refine padded _ e _ _ (inHead h e) fun p he => congrArg (fun j => m ((c : Thread nD τ).loc main_arg9) (ix3 l j d)) (Fin.ext ?_)
  show 128 + ((colW h e).val / 128 * 32 + (colW h e).val % 128) = 128 * 1 + 32 * h.val + e.val
  rw [headCol]
  omega

theorem vw_entry (c : Dev nD) (l : Fin 2) (h : Fin 4) (e d : Fin 128) :
    (V m c main_v11 : FVec Ideal S2x512x128 .f32) (ix3 l (colW h e) d) = pad32 (fun e => (args m c).qkvw (ix3 l (col 2 h e) d)) e := by
  unfold V args
  after_reads_at
  refine padded _ e _ _ (inHead h e) fun p he => congrArg (fun j => m ((c : Thread nD τ).loc main_arg9) (ix3 l j d)) (Fin.ext ?_)
  show 256 + ((colW h e).val / 128 * 32 + (colW h e).val % 128) = 128 * 2 + 32 * h.val + e.val
  rw [headCol]
  omega

theorem qb_entry (c : Dev nD) (l : Fin 2) (h : Fin 4) (e : Fin 128) :
    (V m c main_v15 : FVec Ideal S2x512 .f32) (ix2 l (colW h e)) = pad32 (fun e => (args m c).qkvb (ix2 l (col 0 h e))) e := by
  unfold V args
  after_reads_at
  refine padded _ e _ _ (inHead h e) fun p he => congrArg (fun j => m ((c : Thread nD τ).loc main_arg10) (ix2 l j)) (Fin.ext ?_)
  show (colW h e).val / 128 * 32 + (colW h e).val % 128 = 128 * 0 + 32 * h.val + e.val
  rw [headCol]
  omega

theorem kb_entry (c : Dev nD) (l : Fin 2) (h : Fin 4) (e : Fin 128) :
    (V m c main_v19 : FVec Ideal S2x512 .f32) (ix2 l (colW h e)) = pad32 (fun e => (args m c).qkvb (ix2 l (col 1 h e))) e := by
  unfold V args
  after_reads_at
  refine padded _ e _ _ (inHead h e) fun p he => congrArg (fun j => m ((c : Thread nD τ).loc main_arg10) (ix2 l j)) (Fin.ext ?_)
  show 128 + ((colW h e).val / 128 * 32 + (colW h e).val % 128) = 128 * 1 + 32 * h.val + e.val
  rw [headCol]
  omega

theorem vb_entry (c : Dev nD) (l : Fin 2) (h : Fin 4) (e : Fin 128) :
    (V m c main_v23 : FVec Ideal S2x512 .f32) (ix2 l (colW h e)) = pad32 (fun e => (args m c).qkvb (ix2 l (col 2 h e))) e := by
  unfold V args
  after_reads_at
  refine padded _ e _ _ (inHead h e) fun p he => congrArg (fun j => m ((c : Thread nD τ).loc main_arg10) (ix2 l j)) (Fin.ext ?_)
  show 256 + ((colW h e).val / 128 * 32 + (colW h e).val % 128) = 128 * 2 + 32 * h.val + e.val
  rw [headCol]
  omega

theorem ow_entry (c : Dev nD) (l : Fin 2) (i : Fin 128) (h : Fin 4) (e : Fin 128) :
    (V m c main_v26 : FVec Ideal S2x128x512 .f32) (ix3 l i (colW h e)) = pad32 (fun e => (args m c).ow (ix3 l i (colO h e))) e := by
  unfold V args
  after_reads_at
  refine padded _ e _ _ (inHead h e) fun p he => congrArg (fun j => m ((c : Thread nD τ).loc main_arg11) (ix3 l i j)) (Fin.ext ?_)
  exact headCol h e

set_option maxHeartbeats 8000000 in
/-- The blocks fetched for any point hold the encoder's parameters. -/
theorem fetched_hold (c : Dev nD) (t : Fin cfg0.N) : BlocksHold (fetched m c t) (args m c).enc where
  tw i j := show (iblk m c 1 t : FVec Ideal S128x100 .f32) (ix2 i j) = m ((c : Thread nD τ).loc main_arg1) (ix2 i j) by
    blk_ext [iblk, V, idxA t]
  tb i := (show (iblk m c 2 t : FVec Ideal S1x128 .f32) (ix2 0 i) = (V m c main_v27 : FVec Ideal S1x128 .f32) (ix2 0 i) by
    blk_ext [iblk, idxA t]).trans (by unfold V; after_reads_at; rfl)
  wq i j := show (iblk m c 3 t : FVec Ideal S128x128 .f32) (ix2 i j) = m ((c : Thread nD τ).loc main_arg3) (ix2 i j) by
    blk_ext [iblk, V, idxA t]
  bq i := (show (iblk m c 4 t : FVec Ideal S1x128 .f32) (ix2 0 i) = (V m c main_v28 : FVec Ideal S1x128 .f32) (ix2 0 i) by
    blk_ext [iblk, idxA t]).trans (by unfold V; after_reads_at; rfl)
  wk i j := show (iblk m c 5 t : FVec Ideal S128x128 .f32) (ix2 i j) = m ((c : Thread nD τ).loc main_arg5) (ix2 i j) by
    blk_ext [iblk, V, idxA t]
  bk i := (show (iblk m c 6 t : FVec Ideal S1x128 .f32) (ix2 0 i) = (V m c main_v29 : FVec Ideal S1x128 .f32) (ix2 0 i) by
    blk_ext [iblk, idxA t]).trans (by unfold V; after_reads_at; rfl)
  g1 l i := by
    rw [Args.enc_layer]
    show (iblk m c 7 t : FVec Ideal S2x128 .f32) (ix2 l i) = m ((c : Thread nD τ).loc main_arg7) (ix2 l i)
    blk_ext [iblk, V, idxA t]
  b1 l i := by
    rw [Args.enc_layer]
    show (iblk m c 8 t : FVec Ideal S2x128 .f32) (ix2 l i) = m ((c : Thread nD τ).loc main_arg8) (ix2 l i)
    blk_ext [iblk, V, idxA t]
  qw l h e d := by
    rw [Args.enc_layer]
    refine Eq.trans ?_ (qw_entry m c l h e d)
    show (iblk m c 9 t : FVec Ideal S2x512x128 .f32) (ix3 l (colW h e) d) = _
    blk_ext [iblk, idxB t]
  qb l h e := by
    rw [Args.enc_layer]
    refine Eq.trans ?_ (qb_entry m c l h e)
    show (iblk m c 10 t : FVec Ideal S2x512 .f32) (ix2 l (colW h e)) = _
    blk_ext [iblk, idxB t]
  kw l h e d := by
    rw [Args.enc_layer]
    refine Eq.trans ?_ (kw_entry m c l h e d)
    show (iblk m c 11 t : FVec Ideal S2x512x128 .f32) (ix3 l (colW h e) d) = _
    blk_ext [iblk, idxB t]
  kb l h e := by
    rw [Args.enc_layer]
    refine Eq.trans ?_ (kb_entry m c l h e)
    show (iblk m c 12 t : FVec Ideal S2x512 .f32) (ix2 l (colW h e)) = _
    blk_ext [iblk, idxB t]
  vw l h e d := by
    rw [Args.enc_layer]
    refine Eq.trans ?_ (vw_entry m c l h e d)
    show (iblk m c 13 t : FVec Ideal S2x512x128 .f32) (ix3 l (colW h e) d) = _
    blk_ext [iblk, idxB t]
  vb l h e := by
    rw [Args.enc_layer]
    refine Eq.trans ?_ (vb_entry m c l h e)
    show (iblk m c 14 t : FVec Ideal S2x512 .f32) (ix2 l (colW h e)) = _
    blk_ext [iblk, idxB t]
  ow l i h e := by
    rw [Args.enc_layer]
    refine Eq.trans ?_ (ow_entry m c l i h e)
    show (iblk m c 15 t : FVec Ideal S2x128x512 .f32) (ix3 l i (colW h e)) = _
    blk_ext [iblk, idxB t]
  ob l i := by
    rw [Args.enc_layer]
    show (iblk m c 16 t : FVec Ideal S2x128 .f32) (ix2 l i) = m ((c : Thread nD τ).loc main_arg12) (ix2 l i)
    blk_ext [iblk, V, idxC t]
  g2 l i := by
    rw [Args.enc_layer]
    show (iblk m c 17 t : FVec Ideal S2x128 .f32) (ix2 l i) = m ((c : Thread nD τ).loc main_arg13) (ix2 l i)
    blk_ext [iblk, V, idxC t]
  b2 l i := by
    rw [Args.enc_layer]
    show (iblk m c 18 t : FVec Ideal S2x128 .f32) (ix2 l i) = m ((c : Thread nD τ).loc main_arg14) (ix2 l i)
    blk_ext [iblk, V, idxC t]
  w1 l f d := by
    rw [Args.enc_layer]
    show (iblk m c 19 t : FVec Ideal S2x2048x128 .f32) (ix3 l f d) = m ((c : Thread nD τ).loc main_arg15) (ix3 l f d)
    blk_ext [iblk, V, idxC t]
  c1 l f := by
    rw [Args.enc_layer]
    show (iblk m c 20 t : FVec Ideal S2x2048 .f32) (ix2 l f) = m ((c : Thread nD τ).loc main_arg16) (ix2 l f)
    blk_ext [iblk, V, idxC t]
  w2 l i f := by
    rw [Args.enc_layer]
    show (iblk m c 21 t : FVec Ideal S2x128x2048 .f32) (ix3 l i f) = m ((c : Thread nD τ).loc main_arg17) (ix3 l i f)
    blk_ext [iblk, V, idxC t]
  c2 l i := by
    rw [Args.enc_layer]
    show (iblk m c 22 t : FVec Ideal S2x128 .f32) (ix2 l i) = m ((c : Thread nD τ).loc main_arg18) (ix2 l i)
    blk_ext [iblk, V, idxC t]
  pw i d := show (iblk m c 23 t : FVec Ideal S4096x128 .f32) (ix2 i d) = m ((c : Thread nD τ).loc main_arg19) (ix2 i d) by
    blk_ext [iblk, V, idxD t]
  pb i := (show (iblk m c 24 t : FVec Ideal S1x4096 .f32) (ix2 0 i) = (V m c main_v30 : FVec Ideal S1x4096 .f32) (ix2 0 i) by
    blk_ext [iblk, idxD t]).trans (by unfold V; after_reads_at; rfl)
  lg i := (show (iblk m c 25 t : FVec Ideal S1x4096 .f32) (ix2 0 i) = (V m c main_v31 : FVec Ideal S1x4096 .f32) (ix2 0 i) by
    blk_ext [iblk, idxD t]).trans (by unfold V; after_reads_at; rfl)
  lb i := (show (iblk m c 26 t : FVec Ideal S1x4096 .f32) (ix2 0 i) = (V m c main_v32 : FVec Ideal S1x4096 .f32) (ix2 0 i) by
    blk_ext [iblk, idxD t]).trans (by unfold V; after_reads_at; rfl)
  qt n d := show (iblk m c 27 t : FVec Ideal S1x8x128 .f32) (ix3 0 n d) = m ((c : Thread nD τ).loc main_arg23) (ix3 0 n d) by
    blk_ext [iblk, V, idxD t]

end Cert.Enc

end
-- ==== Proof.ValueIdeal.lean ====
/- The kernel's result, at an index: the embeddings of the encoder's arguments. -/
module

public import proofs.«01_k».proof.Proof.FetchedAt

@[expose] public section

set_option maxRecDepth 16384

noncomputable section

namespace Cert.Enc

open Cert.KernelIdeal Cert.KernelIdeal.Gen Idealize.ShloMosaic Idealize.ShloMosaic.TcCoe Idealize.SL.Sem

variable (m : (ℓ : Loc nD τ sig) → Buf (Elt Ideal) ℓ)

theorem idx28 : ∀ t : Fin cfg0.N, win0_28.index t = ![t.val, 0, 0] := (by decide +kernel : ∀ t : Fin grid0.N, _)

/-- A store's value: group `g`'s rows of the step's embedding rows. -/
theorem stored_out (c : Dev nD) (t : Fin cfg0.N) (g : Fin 8) (b : Fin 16) (hb : b.val = 8 * t.val + g.val) (n : Fin 8) (i : Fin 4096)
    (u : Fin 1) : stored g (fetched m c t).rows (ix3 u n i) = (args m c).out b n i := by
  rw [stored_at, (fetched_hold m c t).rows_at]
  unfold Args.out
  congr 1
  funext k r
  exact x_at m c t g k r b hb

/-- The same at an index `x` of the store whose coordinates are those of `y`. -/
theorem piece_out (c : Dev nD) (t : Fin cfg0.N) (g : Fin 8) (b : Fin 16) (hb : b.val = 8 * t.val + g.val) (n : Fin 8) (i : Fin 4096)
    (y : S8x8x4096.Idx) (y0 : (y 0 : ℕ) = g.val) (y1 : (y 1 : ℕ) = n.val) (y2 : (y 2 : ℕ) = i.val)
    (k : Fin 8) (x : S1x8x4096.Idx) (h0 : (y 0 : ℕ) = k.val + (x 0 : ℕ)) (h1 : (y 1 : ℕ) = (x 1 : ℕ)) (h2 : (y 2 : ℕ) = (x 2 : ℕ)) :
    stored k (fetched m c t).rows x = (args m c).out b n i := by
  have x0 : (x 0 : ℕ) < 1 := (x 0).isLt
  have hk : k = g := Fin.ext (by omega)
  subst hk
  have hx : x = ix3 (0 : Fin 1) n i := by
    funext a
    apply Fin.ext
    fin_cases a
    · show (x 0 : ℕ) = 0
      omega
    · show (x 1 : ℕ) = n.val
      omega
    · show (x 2 : ℕ) = i.val
      omega
  rw [hx]
  exact stored_out m c t k b hb n i 0

/-- What the body leaves in the output block at point `t`. -/
theorem outs_at (c : Dev nD) (t : Fin cfg0.N) (g : Fin 8) (b : Fin 16) (hb : b.val = 8 * t.val + g.val) (n : Fin 8) (i : Fin 4096)
    (y : S8x8x4096.Idx) (y0 : (y 0 : ℕ) = g.val) (y1 : (y 1 : ℕ) = n.val) (y2 : (y 2 : ℕ) = i.val) :
    Cert.KernelIdeal.Hand.outsAt0 m c t y = (args m c).out b n i := by
  unfold Cert.KernelIdeal.Hand.outsAt0
  rw [View.read_writes_eq_canon _ _ _ (Cert.KernelIdeal.Hand.cover m c t)]
  have hc := Cert.KernelIdeal.Hand.cover m c t y
  rw [point_eq] at hc ⊢
  unfold pieces at hc ⊢
  canon_tiles x h using hc
  · exact piece_out m c t g b hb n i y y0 y1 y2 7 x h0 h1 h2
  · exact piece_out m c t g b hb n i y y0 y1 y2 6 x h0 h1 h2
  · exact piece_out m c t g b hb n i y y0 y1 y2 5 x h0 h1 h2
  · exact piece_out m c t g b hb n i y y0 y1 y2 4 x h0 h1 h2
  · exact piece_out m c t g b hb n i y y0 y1 y2 3 x h0 h1 h2
  · exact piece_out m c t g b hb n i y y0 y1 y2 2 x h0 h1 h2
  · exact piece_out m c t g b hb n i y y0 y1 y2 1 x h0 h1 h2
  · exact piece_out m c t g b hb n i y y0 y1 y2 0 x (by omega) h1 h2

/-- The kernel's result. -/
def result (c : Dev nD) : FVec Ideal S16x8x4096 .f32 := fun y => (args m c).out (y 0) (y 1) (y 2)

theorem final (c : Dev nD) : (Cert.KernelIdeal.Hand.dats m 0 c).arrAt 28 cfg0.N = result m c := by
  refine (Cert.KernelIdeal.Hand.dats m 0 c).arrAt_eq_of_covers 28 _ (by decide +kernel) fun t hf y => ?_
  blk_simp
  rw [Cert.KernelIdeal.Hand.after0_28]
  have e0 : (((win0_28.blk t).view.emb y 0 : Fin 16) : ℕ) = t.val * 8 + (y 0 : ℕ) := by blk_simp [idx28 t]
  have e1 : (((win0_28.blk t).view.emb y 1 : Fin 8) : ℕ) = (y 1 : ℕ) := by blk_simp [idx28 t]
  have e2 : (((win0_28.blk t).view.emb y 2 : Fin 4096) : ℕ) = (y 2 : ℕ) := by blk_simp [idx28 t]
  exact outs_at m c t (y 0) _ (by rw [e0]; omega) _ _ y rfl e1.symm e2.symm

/-- The kernel ends with its result at `result` and its arguments unchanged. -/
theorem run_result (ρ : Dev nD → PrngReg) :
    θ_run defs (onTc (τ := τ) (main (F := Ideal))) ⟨m, fun _ => 0, ρ⟩ (fun r => ∀ c : Dev nD, r.2.mem ((c.tc : Thread nD τ).loc main_v33) = result m c) :=
  θ_run_mono (Cert.KernelIdeal.Hand.run_main m ρ) fun _ h c => ((h c).1 28).trans (final m c)

end Cert.Enc

end
-- ==== Proof.RefBody.lean ====
/- The reference's result as one function of its arguments, in named steps: every step is a function
   of its operands, used once per layer. -/
module

public import proofs.«01_k».proof.Proof.Gen.ReferenceIdeal.Run
public import Idealize.ShloMosaic.Lib.Claim

@[expose] public section

set_option maxRecDepth 16384

noncomputable section

namespace Cert.Ref

open Cert.ReferenceIdeal Cert.ReferenceIdeal.Gen Cert.ReferenceIdeal.Value Idealize Idealize.ShloMosaic Idealize.SL.Sem Idealize.ShloMosaic.StableHlo

variable {F : FTy → Type} [FloatOps F]

/-- A row of 128 added to every row. -/
def row128 (b : FVec F S128 .f32) : FVec F S16x200x128 .f32 :=
  broadcastInDim S16x200x128 ![0, 1, 2] bcast_S1x1x128_S16x200x128_0_1_2 (broadcastInDim S1x1x128 ![2] bcast_S128_S1x1x128_2 b)

/-- The features of every batch. -/
def feats (x : FVec F S16x100x200 .f32) (w : FVec F S128x100 .f32) (b : FVec F S128 .f32) : FVec F S16x200x128 .f32 :=
  addf (Host.dotGeneral dot_S16x200x100_S100x128_S16x200x128_2_0_01_1_n_n none (transpose S16x200x100 [0, 2, 1] x transposes_S16x100x200_S16x200x100_0_2_1) (transpose S100x128 [1, 0] w transposes_S128x100_S100x128_1_0)) (row128 b)

/-- The product of the rows with the rows of a 128 by 128 array. -/
def mul128 (y : FVec F S16x200x128 .f32) (w : FVec F S128x128 .f32) : FVec F S16x200x128 .f32 :=
  Host.dotGeneral dot_S16x200x128_S128x128_S16x200x128_2_0_01_1_n_n none y (transpose S128x128 [1, 0] w transposes_S128x128_S128x128_1_0)

/-- The scaled scores of every batch's rows against its rows. -/
def scores (q k : FVec F S16x200x128 .f32) : FVec F S16x200x200 .f32 :=
  Host.divf (Host.dotGeneral dot_S16x200x128_S16x200x128_S16x200x200_2_2_1_1_0_0 none q k) (broadcastInDim S16x200x200 ![] bcast_S_S16x200x200 (Host.sqrt (constant S_ .f32 0x43000000#32)))

/-- The exponentials of the scores less their row's greatest. -/
def expo (s : FVec F S16x200x200 .f32) : FVec F S16x200x200 .f32 :=
  Host.exp (subf s (broadcastInDim S16x200x200 ![0, 1, 2] bcast_S16x200x1_S16x200x200_0_1_2 (broadcastInDim S16x200x1 ![0, 1] bcast_S16x200_S16x200x1_0_1 (maximumf (broadcastInDim S16x200 ![] bcast_S_S16x200 (constant S_ .f32 0xFF800000#32)) (Host.reduce FloatOps.maximumf s (constant S_ .f32 0xFF800000#32) reducesTo_S16x200x200_S16x200_d2 h_S_)))))

/-- The rows over their sums. -/
def share (e : FVec F S16x200x200 .f32) : FVec F S16x200x200 .f32 :=
  Host.divf e (broadcastInDim S16x200x200 ![0, 1, 2] bcast_S16x200x1_S16x200x200_0_1_2 (broadcastInDim S16x200x1 ![0, 1] bcast_S16x200_S16x200x1_0_1 (Host.reduceAdd e (constant S_ .f32 0x00000000#32) reducesTo_S16x200x200_S16x200_d2 h_S_)))

/-- The graph step. -/
def graph (h : FVec F S16x200x128 .f32) (wq : FVec F S128x128 .f32) (bq : FVec F S128 .f32) (wk : FVec F S128x128 .f32) (bk : FVec F S128 .f32) : FVec F S16x200x128 .f32 :=
  Host.dotGeneral dot_S16x200x200_S16x200x128_S16x200x128_2_1_1_2_0_0 none (share (expo (scores (addf (mul128 h wq) (row128 bq)) (addf (mul128 h wk) (row128 bk))))) h

/-- The mean of each row. -/
def means (z : FVec F S16x200x128 .f32) : FVec F S16x200x1 .f32 :=
  Host.divf (broadcastInDim S16x200x1 ![0, 1] bcast_S16x200_S16x200x1_0_1 (Host.reduceAdd z (constant S_ .f32 0x00000000#32) reducesTo_S16x200x128_S16x200_d2 h_S_)) (broadcastInDim S16x200x1 ![] bcast_S_S16x200x1 (constant S_ .f32 0x43000000#32))

/-- The rows less their means. -/
def centered (z : FVec F S16x200x128 .f32) : FVec F S16x200x128 .f32 :=
  subf z (broadcastInDim S16x200x128 ![0, 1, 2] bcast_S16x200x1_S16x200x128_0_1_2 (means z))

/-- The layer normalization of each row, with gain and offset. -/
def normed (z : FVec F S16x200x128 .f32) (g b : FVec F S128 .f32) : FVec F S16x200x128 .f32 :=
  addf (mulf (Host.divf (centered z) (broadcastInDim S16x200x128 ![0, 1, 2] bcast_S16x200x1_S16x200x128_0_1_2 (Host.sqrt (addf (means (mulf (centered z) (centered z))) (broadcastInDim S16x200x1 ![] bcast_S_S16x200x1 (constant S_ .f32 0x3727C5AC#32)))))) (row128 g)) (row128 b)

/-- What one layer takes. -/
structure LayerIn (F : FTy → Type) [FloatOps F] where
  g1 : FVec F S128 .f32
  b1 : FVec F S128 .f32
  qkvw : FVec F S384x128 .f32
  qkvb : FVec F S384 .f32
  ow : FVec F S128x128 .f32
  ob : FVec F S128 .f32
  g2 : FVec F S128 .f32
  b2 : FVec F S128 .f32
  w1 : FVec F S2048x128 .f32
  c1 : FVec F S2048 .f32
  w2 : FVec F S128x2048 .f32
  c2 : FVec F S128 .f32

/-- The queries, keys and values of every row. -/
def qkv (L : LayerIn F) (z : FVec F S16x200x128 .f32) : FVec F S16x200x384 .f32 :=
  addf (Host.dotGeneral dot_S16x200x128_S128x384_S16x200x384_2_0_01_1_n_n none (normed z L.g1 L.b1) (transpose S128x384 [1, 0] L.qkvw transposes_S384x128_S128x384_1_0))
    (broadcastInDim S16x200x384 ![0, 1, 2] bcast_S1x1x384_S16x200x384_0_1_2 (broadcastInDim S1x1x384 ![2] bcast_S384_S1x1x384_2 L.qkvb))

/-- The queries of every head. -/
def queries (y : FVec F S16x200x384 .f32) : FVec F S16x200x4x32 .f32 :=
  shapeCast _ (extractStridedSlice S16x200x128 ![0, 0, 0] y slices_S16x200x384_S16x200x128_0_0_0) shapeCasts_S16x200x128_S16x200x4x32

/-- The keys of every head. -/
def keys (y : FVec F S16x200x384 .f32) : FVec F S16x200x4x32 .f32 :=
  shapeCast _ (extractStridedSlice S16x200x128 ![0, 0, 128] y slices_S16x200x384_S16x200x128_0_0_128) shapeCasts_S16x200x128_S16x200x4x32

/-- The values of every head. -/
def values (y : FVec F S16x200x384 .f32) : FVec F S16x200x4x32 .f32 :=
  shapeCast _ (extractStridedSlice S16x200x128 ![0, 0, 256] y slices_S16x200x384_S16x200x128_0_0_256) shapeCasts_S16x200x128_S16x200x4x32

/-- The scaled scores of every head. -/
def scoresH (q k : FVec F S16x200x4x32 .f32) : FVec F S16x4x200x200 .f32 :=
  Host.divf (Host.dotGeneral dot_S16x200x4x32_S16x200x4x32_S16x4x200x200_3_3_1_1_02_02 none q k) (broadcastInDim S16x4x200x200 ![] bcast_S_S16x4x200x200 (Host.sqrt (constant S_ .f32 0x42000000#32)))

/-- The exponentials of the heads' scores less their row's greatest. -/
def expoH (s : FVec F S16x4x200x200 .f32) : FVec F S16x4x200x200 .f32 :=
  Host.exp (subf s (broadcastInDim S16x4x200x200 ![0, 1, 2, 3] bcast_S16x4x200x1_S16x4x200x200_0_1_2_3 (broadcastInDim S16x4x200x1 ![0, 1, 2] bcast_S16x4x200_S16x4x200x1_0_1_2 (maximumf (broadcastInDim S16x4x200 ![] bcast_S_S16x4x200 (constant S_ .f32 0xFF800000#32)) (Host.reduce FloatOps.maximumf s (constant S_ .f32 0xFF800000#32) reducesTo_S16x4x200x200_S16x4x200_d3 h_S_)))))

/-- The heads' rows over their sums. -/
def shareH (e : FVec F S16x4x200x200 .f32) : FVec F S16x4x200x200 .f32 :=
  Host.divf e (broadcastInDim S16x4x200x200 ![0, 1, 2, 3] bcast_S16x4x200x1_S16x4x200x200_0_1_2_3 (broadcastInDim S16x4x200x1 ![0, 1, 2] bcast_S16x4x200_S16x4x200x1_0_1_2 (Host.reduceAdd e (constant S_ .f32 0x00000000#32) reducesTo_S16x4x200x200_S16x4x200_d3 h_S_)))

/-- The heads' outputs. -/
def mixed (p : FVec F S16x4x200x200 .f32) (v : FVec F S16x200x4x32 .f32) : FVec F S16x4x32x200 .f32 :=
  Host.dotGeneral dot_S16x200x4x32_S16x4x200x200_S16x4x32x200_1_3_3_2_02_01 none v p

/-- The heads' outputs as rows of 128. -/
def joined (o : FVec F S16x4x32x200 .f32) : FVec F S16x200x128 .f32 :=
  shapeCast _ (transpose S16x200x4x32 [0, 3, 1, 2] o transposes_S16x4x32x200_S16x200x4x32_0_3_1_2) shapeCasts_S16x200x4x32_S16x200x128

/-- One layer's attention half. -/
def layerA (L : LayerIn F) (z : FVec F S16x200x128 .f32) : FVec F S16x200x128 .f32 :=
  addf (addf z (mul128 (joined (mixed (shareH (expoH (scoresH (queries (qkv L z)) (keys (qkv L z))))) (values (qkv L z)))) L.ow)) (row128 L.ob)

/-- One layer's hidden rows. -/
def hidden (L : LayerIn F) (z : FVec F S16x200x128 .f32) : FVec F S16x200x2048 .f32 :=
  maximumf (addf (Host.dotGeneral dot_S16x200x128_S128x2048_S16x200x2048_2_0_01_1_n_n none (normed z L.g2 L.b2) (transpose S128x2048 [1, 0] L.w1 transposes_S2048x128_S128x2048_1_0))
    (broadcastInDim S16x200x2048 ![0, 1, 2] bcast_S1x1x2048_S16x200x2048_0_1_2 (broadcastInDim S1x1x2048 ![2] bcast_S2048_S1x1x2048_2 L.c1))) (broadcastInDim S16x200x2048 ![] bcast_S_S16x200x2048 (constant S_ .f32 0x00000000#32))

/-- One layer's feed-forward half. -/
def layerB (L : LayerIn F) (z : FVec F S16x200x128 .f32) : FVec F S16x200x128 .f32 :=
  addf (addf z (Host.dotGeneral dot_S16x200x2048_S2048x128_S16x200x128_2_0_01_1_n_n none (hidden L z) (transpose S2048x128 [1, 0] L.w2 transposes_S128x2048_S2048x128_1_0))) (row128 L.c2)

/-- The scaled scores of the query tokens. -/
def scoresQ (qt : FVec F S1x8x128 .f32) (z : FVec F S16x200x128 .f32) : FVec F S16x8x200 .f32 :=
  Host.divf (Host.dotGeneral dot_S16x8x128_S16x200x128_S16x8x200_2_2_1_1_0_0 none (broadcastInDim S16x8x128 ![0, 1, 2] bcast_S1x8x128_S16x8x128_0_1_2 qt) z) (broadcastInDim S16x8x200 ![] bcast_S_S16x8x200 (Host.sqrt (constant S_ .f32 0x43000000#32)))

/-- The exponentials of the query tokens' scores less their row's greatest. -/
def expoQ (s : FVec F S16x8x200 .f32) : FVec F S16x8x200 .f32 :=
  Host.exp (subf s (broadcastInDim S16x8x200 ![0, 1, 2] bcast_S16x8x1_S16x8x200_0_1_2 (broadcastInDim S16x8x1 ![0, 1] bcast_S16x8_S16x8x1_0_1 (maximumf (broadcastInDim S16x8 ![] bcast_S_S16x8 (constant S_ .f32 0xFF800000#32)) (Host.reduce FloatOps.maximumf s (constant S_ .f32 0xFF800000#32) reducesTo_S16x8x200_S16x8_d2 h_S_)))))

/-- The query tokens' rows over their sums. -/
def shareQ (e : FVec F S16x8x200 .f32) : FVec F S16x8x200 .f32 :=
  Host.divf e (broadcastInDim S16x8x200 ![0, 1, 2] bcast_S16x8x1_S16x8x200_0_1_2 (broadcastInDim S16x8x1 ![0, 1] bcast_S16x8_S16x8x1_0_1 (Host.reduceAdd e (constant S_ .f32 0x00000000#32) reducesTo_S16x8x200_S16x8_d2 h_S_)))

/-- The pooled rows. -/
def pool (qt : FVec F S1x8x128 .f32) (z : FVec F S16x200x128 .f32) : FVec F S16x8x128 .f32 :=
  Host.dotGeneral dot_S16x8x200_S16x200x128_S16x8x128_2_1_1_2_0_0 none (shareQ (expoQ (scoresQ qt z))) z

/-- A row of 4096 for every pooled row. -/
def row4096 (b : FVec F S4096 .f32) : FVec F S16x8x4096 .f32 :=
  broadcastInDim S16x8x4096 ![0, 1, 2] bcast_S1x1x4096_S16x8x4096_0_1_2 (broadcastInDim S1x1x4096 ![2] bcast_S4096_S1x1x4096_2 b)

/-- The embedding before its normalization. -/
def embed (p : FVec F S16x8x128 .f32) (w : FVec F S4096x128 .f32) (b : FVec F S4096 .f32) : FVec F S16x8x4096 .f32 :=
  addf (Host.dotGeneral dot_S16x8x128_S128x4096_S16x8x4096_2_0_01_1_n_n none p (transpose S128x4096 [1, 0] w transposes_S4096x128_S128x4096_1_0)) (row4096 b)

/-- The mean of each embedding row. -/
def meansE (z : FVec F S16x8x4096 .f32) : FVec F S16x8x1 .f32 :=
  Host.divf (broadcastInDim S16x8x1 ![0, 1] bcast_S16x8_S16x8x1_0_1 (Host.reduceAdd z (constant S_ .f32 0x00000000#32) reducesTo_S16x8x4096_S16x8_d2 h_S_)) (broadcastInDim S16x8x1 ![] bcast_S_S16x8x1 (constant S_ .f32 0x45800000#32))

/-- The embedding rows less their means. -/
def centeredE (z : FVec F S16x8x4096 .f32) : FVec F S16x8x4096 .f32 :=
  subf z (broadcastInDim S16x8x4096 ![0, 1, 2] bcast_S16x8x1_S16x8x4096_0_1_2 (meansE z))

/-- The layer normalization of each embedding row. -/
def normedE (z : FVec F S16x8x4096 .f32) (g b : FVec F S4096 .f32) : FVec F S16x8x4096 .f32 :=
  addf (mulf (Host.divf (centeredE z) (broadcastInDim S16x8x4096 ![0, 1, 2] bcast_S16x8x1_S16x8x4096_0_1_2 (Host.sqrt (addf (meansE (mulf (centeredE z) (centeredE z))) (broadcastInDim S16x8x1 ![] bcast_S_S16x8x1 (constant S_ .f32 0x3727C5AC#32)))))) (row4096 g)) (row4096 b)

/-- Layer 0's arguments. -/
def layer0 (V0 : Valuation τ sig (Elt F)) : LayerIn F where
  g1 := shapeCast _ (extractStridedSlice S1x128 ![0, 0] (V0 (Proc.devRef .tc main_arg7)) slices_S2x128_S1x128_0_0) shapeCasts_S1x128_S128
  b1 := shapeCast _ (extractStridedSlice S1x128 ![0, 0] (V0 (Proc.devRef .tc main_arg8)) slices_S2x128_S1x128_0_0) shapeCasts_S1x128_S128
  qkvw := shapeCast _ (extractStridedSlice S1x384x128 ![0, 0, 0] (V0 (Proc.devRef .tc main_arg9)) slices_S2x384x128_S1x384x128_0_0_0) shapeCasts_S1x384x128_S384x128
  qkvb := shapeCast _ (extractStridedSlice S1x384 ![0, 0] (V0 (Proc.devRef .tc main_arg10)) slices_S2x384_S1x384_0_0) shapeCasts_S1x384_S384
  ow := shapeCast _ (extractStridedSlice S1x128x128 ![0, 0, 0] (V0 (Proc.devRef .tc main_arg11)) slices_S2x128x128_S1x128x128_0_0_0) shapeCasts_S1x128x128_S128x128
  ob := shapeCast _ (extractStridedSlice S1x128 ![0, 0] (V0 (Proc.devRef .tc main_arg12)) slices_S2x128_S1x128_0_0) shapeCasts_S1x128_S128
  g2 := shapeCast _ (extractStridedSlice S1x128 ![0, 0] (V0 (Proc.devRef .tc main_arg13)) slices_S2x128_S1x128_0_0) shapeCasts_S1x128_S128
  b2 := shapeCast _ (extractStridedSlice S1x128 ![0, 0] (V0 (Proc.devRef .tc main_arg14)) slices_S2x128_S1x128_0_0) shapeCasts_S1x128_S128
  w1 := shapeCast _ (extractStridedSlice S1x2048x128 ![0, 0, 0] (V0 (Proc.devRef .tc main_arg15)) slices_S2x2048x128_S1x2048x128_0_0_0) shapeCasts_S1x2048x128_S2048x128
  c1 := shapeCast _ (extractStridedSlice S1x2048 ![0, 0] (V0 (Proc.devRef .tc main_arg16)) slices_S2x2048_S1x2048_0_0) shapeCasts_S1x2048_S2048
  w2 := shapeCast _ (extractStridedSlice S1x128x2048 ![0, 0, 0] (V0 (Proc.devRef .tc main_arg17)) slices_S2x128x2048_S1x128x2048_0_0_0) shapeCasts_S1x128x2048_S128x2048
  c2 := shapeCast _ (extractStridedSlice S1x128 ![0, 0] (V0 (Proc.devRef .tc main_arg18)) slices_S2x128_S1x128_0_0) shapeCasts_S1x128_S128

/-- Layer 1's arguments. -/
def layer1 (V0 : Valuation τ sig (Elt F)) : LayerIn F where
  g1 := shapeCast _ (extractStridedSlice S1x128 ![1, 0] (V0 (Proc.devRef .tc main_arg7)) slices_S2x128_S1x128_1_0) shapeCasts_S1x128_S128
  b1 := shapeCast _ (extractStridedSlice S1x128 ![1, 0] (V0 (Proc.devRef .tc main_arg8)) slices_S2x128_S1x128_1_0) shapeCasts_S1x128_S128
  qkvw := shapeCast _ (extractStridedSlice S1x384x128 ![1, 0, 0] (V0 (Proc.devRef .tc main_arg9)) slices_S2x384x128_S1x384x128_1_0_0) shapeCasts_S1x384x128_S384x128
  qkvb := shapeCast _ (extractStridedSlice S1x384 ![1, 0] (V0 (Proc.devRef .tc main_arg10)) slices_S2x384_S1x384_1_0) shapeCasts_S1x384_S384
  ow := shapeCast _ (extractStridedSlice S1x128x128 ![1, 0, 0] (V0 (Proc.devRef .tc main_arg11)) slices_S2x128x128_S1x128x128_1_0_0) shapeCasts_S1x128x128_S128x128
  ob := shapeCast _ (extractStridedSlice S1x128 ![1, 0] (V0 (Proc.devRef .tc main_arg12)) slices_S2x128_S1x128_1_0) shapeCasts_S1x128_S128
  g2 := shapeCast _ (extractStridedSlice S1x128 ![1, 0] (V0 (Proc.devRef .tc main_arg13)) slices_S2x128_S1x128_1_0) shapeCasts_S1x128_S128
  b2 := shapeCast _ (extractStridedSlice S1x128 ![1, 0] (V0 (Proc.devRef .tc main_arg14)) slices_S2x128_S1x128_1_0) shapeCasts_S1x128_S128
  w1 := shapeCast _ (extractStridedSlice S1x2048x128 ![1, 0, 0] (V0 (Proc.devRef .tc main_arg15)) slices_S2x2048x128_S1x2048x128_1_0_0) shapeCasts_S1x2048x128_S2048x128
  c1 := shapeCast _ (extractStridedSlice S1x2048 ![1, 0] (V0 (Proc.devRef .tc main_arg16)) slices_S2x2048_S1x2048_1_0) shapeCasts_S1x2048_S2048
  w2 := shapeCast _ (extractStridedSlice S1x128x2048 ![1, 0, 0] (V0 (Proc.devRef .tc main_arg17)) slices_S2x128x2048_S1x128x2048_1_0_0) shapeCasts_S1x128x2048_S128x2048
  c2 := shapeCast _ (extractStridedSlice S1x128 ![1, 0] (V0 (Proc.devRef .tc main_arg18)) slices_S2x128_S1x128_1_0) shapeCasts_S1x128_S128

/-- The rows after the graph step. -/
def front (V0 : Valuation τ sig (Elt F)) : FVec F S16x200x128 .f32 :=
  graph (feats (V0 (Proc.devRef .tc main_arg0)) (V0 (Proc.devRef .tc main_arg1)) (V0 (Proc.devRef .tc main_arg2)))
    (V0 (Proc.devRef .tc main_arg3)) (V0 (Proc.devRef .tc main_arg4)) (V0 (Proc.devRef .tc main_arg5)) (V0 (Proc.devRef .tc main_arg6))

theorem v5_eq (V0 : Valuation τ sig (Elt F)) :
    res_main_v5 V0 = feats (V0 (Proc.devRef .tc main_arg0)) (V0 (Proc.devRef .tc main_arg1)) (V0 (Proc.devRef .tc main_arg2)) := rfl

theorem v31_eq (V0 : Valuation τ sig (Elt F)) : res_main_v31 V0 = front V0 := rfl

theorem v102_eq (V0 : Valuation τ sig (Elt F)) : res_main_v102 V0 = layerA (layer0 V0) (res_main_v31 V0) := rfl

theorem v150_eq (V0 : Valuation τ sig (Elt F)) : res_main_v150 V0 = layerB (layer0 V0) (res_main_v102 V0) := rfl

theorem v221_eq (V0 : Valuation τ sig (Elt F)) : res_main_v221 V0 = layerA (layer1 V0) (res_main_v150 V0) := rfl

theorem v269_eq (V0 : Valuation τ sig (Elt F)) : res_main_v269 V0 = layerB (layer1 V0) (res_main_v221 V0) := rfl

theorem v291_eq (V0 : Valuation τ sig (Elt F)) :
    res_main_v291 V0 = embed (pool (V0 (Proc.devRef .tc main_arg23)) (res_main_v269 V0)) (V0 (Proc.devRef .tc main_arg19)) (V0 (Proc.devRef .tc main_arg20)) := rfl

/-- The reference's result. -/
def total (V0 : Valuation τ sig (Elt F)) : FVec F S16x8x4096 .f32 :=
  normedE (embed (pool (V0 (Proc.devRef .tc main_arg23)) (layerB (layer1 V0) (layerA (layer1 V0) (layerB (layer0 V0) (layerA (layer0 V0) (front V0))))))
    (V0 (Proc.devRef .tc main_arg19)) (V0 (Proc.devRef .tc main_arg20))) (V0 (Proc.devRef .tc main_arg21)) (V0 (Proc.devRef .tc main_arg22))

theorem total_eq (V0 : Valuation τ sig (Elt F)) :
    total V0 = normedE (res_main_v291 V0) (V0 (Proc.devRef .tc main_arg21)) (V0 (Proc.devRef .tc main_arg22)) := by
  rw [v291_eq, v269_eq, v221_eq, v150_eq, v102_eq, v31_eq]
  rfl

/-- Every run of the reference ends with `total` of its arguments as its result. -/
theorem run_total (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v315) = total (launchContents m c) := by
  refine θ_run_mono (run m ρ) fun r h c => ?_
  rw [total_eq]
  exact (h c).1

end Cert.Ref

end
-- ==== Proof.Consts.lean ====
/- The two numbers whose roots the reference divides its scores by, as the extended reals their patterns
   denote. -/
module

public import Idealize.ShloMosaic.PureOps.Ideal

@[expose] public section

noncomputable section

namespace Cert.Enc

open Idealize.ShloMosaic

theorem ofBits_128 : Ideal.ofBits .f32 0x43000000#32 = ((128 : ℝ) : EReal) := by
  simp [Ideal.ofBits, Ideal.ieee, -EReal.coe_mul]
  norm_num

theorem ofBits_32 : Ideal.ofBits .f32 0x42000000#32 = ((32 : ℝ) : EReal) := by
  simp [Ideal.ofBits, Ideal.ieee, -EReal.coe_mul]
  norm_num

end Cert.Enc

end
-- ==== Proof.RefAt.lean ====
/- The reference's steps read at an index: each is the mathematics of Math.lean over its operands'
   elements, one batch at a time. -/
module

public import proofs.«01_k».proof.Proof.RefBody
public import proofs.«01_k».proof.Proof.Math
public import proofs.«01_k».proof.Proof.Consts

@[expose] public section

set_option maxRecDepth 16384

noncomputable section

namespace Cert.Ref

open Cert.ReferenceIdeal Cert.ReferenceIdeal.Gen Idealize.ShloMosaic Idealize.SL.Sem
open Cert.Enc (dot top soft mean center spread norm att scaleD scaleH lin col colO LayerP EncP)

/-- The greatest entry is not below the start of the fold, so taking the start in once more changes nothing. -/
theorem max_top {n : ℕ} (s : Fin n → EReal) :
    max (Ideal.ofBits .f32 0xFF800000#32) (Finset.univ.fold max (Ideal.ofBits .f32 0xFF800000#32) s) = top s :=
  max_eq_right ((Finset.le_fold_max _).mpr (Or.inl le_rfl))

/-- A batch's rows. -/
def bat (z : FVec Ideal S16x200x128 .f32) (b : Fin 16) (r : Fin 200) (c : Fin 128) : EReal := z (ix3 b r c)

theorem row128_at (v : FVec Ideal S128 .f32) (b : Fin 16) (r : Fin 200) (c : Fin 128) : row128 v (ix3 b r c) = v (ix1 c) := by
  pointwise [row128]

theorem feats_at (x : FVec Ideal S16x100x200 .f32) (w : FVec Ideal S128x100 .f32) (v : FVec Ideal S128 .f32) (b : Fin 16) (r : Fin 200) (c : Fin 128) :
    feats x w v (ix3 b r c) = lin (fun c t => w (ix2 c t)) (fun c => v (ix1 c)) (fun t => x (ix3 b t r)) c := by
  pointwise [feats, row128]
  rfl

theorem mul128_at (y : FVec Ideal S16x200x128 .f32) (w : FVec Ideal S128x128 .f32) (b : Fin 16) (r : Fin 200) (c : Fin 128) :
    mul128 y w (ix3 b r c) = dot (fun d => y (ix3 b r d)) (fun d => w (ix2 c d)) := by
  pointwise [mul128]
  rfl

/-- Division by the root of 128 is the product with `1/√128`. -/
theorem div_d (x : EReal) : Ideal.div x (Ideal.sqrt (Ideal.ofBits .f32 0x43000000#32)) = x * scaleD := by
  rw [Cert.Enc.ofBits_128, Ideal.sqrt_coe, if_neg (by norm_num), Ideal.div_coe (by positivity), one_div]
  rfl

/-- Division by the root of 32 is the product with `1/√32`. -/
theorem div_h (x : EReal) : Ideal.div x (Ideal.sqrt (Ideal.ofBits .f32 0x42000000#32)) = x * scaleH := by
  rw [Cert.Enc.ofBits_32, Ideal.sqrt_coe, if_neg (by norm_num), Ideal.div_coe (by positivity), one_div]
  rfl

theorem scores_at (q k : FVec Ideal S16x200x128 .f32) (b : Fin 16) (r j : Fin 200) :
    scores q k (ix3 b r j) = dot (fun d => q (ix3 b r d)) (fun d => k (ix3 b j d)) * scaleD := by
  rw [← div_d]
  pointwise [scores]
  rfl

theorem expo_at (s : FVec Ideal S16x200x200 .f32) (b : Fin 16) (r j : Fin 200) :
    expo s (ix3 b r j) = Ideal.exp (s (ix3 b r j) - top fun j => s (ix3 b r j)) := by
  rw [← max_top]
  pointwise [expo]

theorem share_at (s : FVec Ideal S16x200x200 .f32) (b : Fin 16) (r j : Fin 200) :
    share (expo s) (ix3 b r j) = soft (fun j => s (ix3 b r j)) j := by
  unfold soft
  simp only [← expo_at]
  pointwise [share]

theorem graph_at (h : FVec Ideal S16x200x128 .f32) (wq : FVec Ideal S128x128 .f32) (bq : FVec Ideal S128 .f32) (wk : FVec Ideal S128x128 .f32) (bk : FVec Ideal S128 .f32)
    (b : Fin 16) (r : Fin 200) (c : Fin 128) :
    graph h wq bq wk bk (ix3 b r c)
      = att scaleD (fun r => lin (fun c d => wq (ix2 c d)) (fun c => bq (ix1 c)) (bat h b r)) (fun r => lin (fun c d => wk (ix2 c d)) (fun c => bk (ix1 c)) (bat h b r)) (bat h b) r c := by
  unfold graph
  generalize hq : addf (mul128 h wq) (row128 bq) = q
  generalize hk : addf (mul128 h wk) (row128 bk) = k
  pointwise
  simp only [share_at, scores_at, ← hq, ← hk]
  pointwise
  simp only [mul128_at, row128_at]
  rfl

theorem means_at (z : FVec Ideal S16x200x128 .f32) (b : Fin 16) (r : Fin 200) (u : Fin 1) :
    means z (ix3 b r u) = mean 0x43000000#32 fun c => z (ix3 b r c) := by
  pointwise [means]
  rfl

theorem centered_at (z : FVec Ideal S16x200x128 .f32) (b : Fin 16) (r : Fin 200) (c : Fin 128) :
    centered z (ix3 b r c) = center 0x43000000#32 (fun c => z (ix3 b r c)) c := by
  pointwise [centered]
  rw [means_at]
  rfl

theorem normed_at (z : FVec Ideal S16x200x128 .f32) (g v : FVec Ideal S128 .f32) (b : Fin 16) (r : Fin 200) (c : Fin 128) :
    normed z g v (ix3 b r c) = norm 0x43000000#32 (fun c => g (ix1 c)) (fun c => v (ix1 c)) (fun c => z (ix3 b r c)) c := by
  pointwise [normed]
  simp only [means_at, row128_at]
  pointwise
  simp only [centered_at]
  rfl

theorem qkv_at (L : LayerIn Ideal) (z : FVec Ideal S16x200x128 .f32) (b : Fin 16) (r : Fin 200) (c : Fin 384) :
    qkv L z (ix3 b r c) = lin (fun c d => L.qkvw (ix2 c d)) (fun c => L.qkvb (ix1 c)) (fun d => normed z L.g1 L.b1 (ix3 b r d)) c := by
  unfold qkv
  generalize normed z L.g1 L.b1 = y
  pointwise
  rfl

theorem queries_at (y : FVec Ideal S16x200x384 .f32) (b : Fin 16) (r : Fin 200) (h : Fin 4) (e : Fin 32) :
    queries y (ix4 b r h e) = y (ix3 b r (col 0 h e)) := by
  pointwise [queries]
  exact congrArg (fun c => y (ix3 b r c)) (Fin.ext (by dsimp only [col]; omega))

theorem keys_at (y : FVec Ideal S16x200x384 .f32) (b : Fin 16) (r : Fin 200) (h : Fin 4) (e : Fin 32) :
    keys y (ix4 b r h e) = y (ix3 b r (col 1 h e)) := by
  pointwise [keys]
  exact congrArg (fun c => y (ix3 b r c)) (Fin.ext (by dsimp only [col]; omega))

theorem values_at (y : FVec Ideal S16x200x384 .f32) (b : Fin 16) (r : Fin 200) (h : Fin 4) (e : Fin 32) :
    values y (ix4 b r h e) = y (ix3 b r (col 2 h e)) := by
  pointwise [values]
  exact congrArg (fun c => y (ix3 b r c)) (Fin.ext (by dsimp only [col]; omega))

theorem scoresH_at (q k : FVec Ideal S16x200x4x32 .f32) (b : Fin 16) (h : Fin 4) (r j : Fin 200) :
    scoresH q k (ix4 b h r j) = dot (fun e => q (ix4 b r h e)) (fun e => k (ix4 b j h e)) * scaleH := by
  rw [← div_h]
  pointwise [scoresH]
  rfl

theorem expoH_at (s : FVec Ideal S16x4x200x200 .f32) (b : Fin 16) (h : Fin 4) (r j : Fin 200) :
    expoH s (ix4 b h r j) = Ideal.exp (s (ix4 b h r j) - top fun j => s (ix4 b h r j)) := by
  rw [← max_top]
  pointwise [expoH]

theorem shareH_at (s : FVec Ideal S16x4x200x200 .f32) (b : Fin 16) (h : Fin 4) (r j : Fin 200) :
    shareH (expoH s) (ix4 b h r j) = soft (fun j => s (ix4 b h r j)) j := by
  unfold soft
  simp only [← expoH_at]
  pointwise [shareH]

theorem mixed_at (p : FVec Ideal S16x4x200x200 .f32) (v : FVec Ideal S16x200x4x32 .f32) (b : Fin 16) (h : Fin 4) (e : Fin 32) (r : Fin 200) :
    mixed p v (ix4 b h e r) = ∑ j, p (ix4 b h r j) * v (ix4 b j h e) := by
  simp only [mul_comm (p _)]
  pointwise [mixed]

theorem joined_at (o : FVec Ideal S16x4x32x200 .f32) (b : Fin 16) (r : Fin 200) (h : Fin 4) (e : Fin 32) :
    joined o (ix3 b r (colO h e)) = o (ix4 b h e r) := by
  pointwise [joined, colO]

/-- A sum over 128 columns, head by head. -/
theorem sum_heads (f : Fin 128 → EReal) : ∑ k, f k = ∑ h : Fin 4, ∑ e : Fin 32, f (colO h e) := by
  rw [← Fintype.sum_prod_type' (fun h e => f (colO h e))]
  refine (Fintype.sum_equiv (finProdFinEquiv (m := 4) (n := 32)) _ _ fun p => ?_).symm
  congr 1
  exact Fin.ext (Nat.add_comm _ _)

/-- A layer's parameters as plain functions. -/
def par (L : LayerIn Ideal) : LayerP where
  g1 c := L.g1 (ix1 c)
  b1 c := L.b1 (ix1 c)
  qkvw c d := L.qkvw (ix2 c d)
  qkvb c := L.qkvb (ix1 c)
  ow c d := L.ow (ix2 c d)
  ob c := L.ob (ix1 c)
  g2 c := L.g2 (ix1 c)
  b2 c := L.b2 (ix1 c)
  w1 c d := L.w1 (ix2 c d)
  c1 c := L.c1 (ix1 c)
  w2 c d := L.w2 (ix2 c d)
  c2 c := L.c2 (ix1 c)

theorem layerA_at (L : LayerIn Ideal) (z : FVec Ideal S16x200x128 .f32) (b : Fin 16) :
    bat (layerA L z) b = Cert.Enc.layA (par L) (bat z b) := by
  funext r c
  unfold bat layerA
  pointwise
  rw [row128_at, mul128_at, dot, sum_heads]
  simp only [joined_at, mixed_at, shareH_at, scoresH_at, queries_at, keys_at, values_at, qkv_at, normed_at]
  rfl

theorem hidden_at (L : LayerIn Ideal) (z : FVec Ideal S16x200x128 .f32) (b : Fin 16) (r : Fin 200) (f : Fin 2048) :
    hidden L z (ix3 b r f) = Cert.Enc.hid (par L) (bat z b r) f := by
  unfold hidden
  generalize hy : normed z L.g2 L.b2 = y
  pointwise
  simp only [← hy, normed_at]
  rfl

theorem layerB_at (L : LayerIn Ideal) (z : FVec Ideal S16x200x128 .f32) (b : Fin 16) (r : Fin 200) :
    bat (layerB L z) b r = Cert.Enc.layB (par L) (bat z b r) := by
  funext c
  unfold bat layerB
  generalize hy : hidden L z = y
  pointwise
  simp only [← hy, hidden_at, row128_at]
  rfl

theorem layer_at (L : LayerIn Ideal) (z : FVec Ideal S16x200x128 .f32) (b : Fin 16) :
    bat (layerB L (layerA L z)) b = Cert.Enc.lay (par L) (bat z b) := by
  funext r
  rw [layerB_at, layerA_at]
  rfl

theorem scoresQ_at (qt : FVec Ideal S1x8x128 .f32) (z : FVec Ideal S16x200x128 .f32) (b : Fin 16) (n : Fin 8) (j : Fin 200) :
    scoresQ qt z (ix3 b n j) = dot (fun d => qt (ix3 0 n d)) (fun d => z (ix3 b j d)) * scaleD := by
  rw [← div_d]
  pointwise [scoresQ]
  rfl

theorem expoQ_at (s : FVec Ideal S16x8x200 .f32) (b : Fin 16) (n : Fin 8) (j : Fin 200) :
    expoQ s (ix3 b n j) = Ideal.exp (s (ix3 b n j) - top fun j => s (ix3 b n j)) := by
  rw [← max_top]
  pointwise [expoQ]

theorem shareQ_at (s : FVec Ideal S16x8x200 .f32) (b : Fin 16) (n : Fin 8) (j : Fin 200) :
    shareQ (expoQ s) (ix3 b n j) = soft (fun j => s (ix3 b n j)) j := by
  unfold soft
  simp only [← expoQ_at]
  pointwise [shareQ]

theorem pool_at (qt : FVec Ideal S1x8x128 .f32) (z : FVec Ideal S16x200x128 .f32) (b : Fin 16) (n : Fin 8) (c : Fin 128) :
    pool qt z (ix3 b n c) = att scaleD (fun n d => qt (ix3 0 n d)) (bat z b) (bat z b) n c := by
  unfold pool
  pointwise
  simp only [shareQ_at, scoresQ_at]
  rfl

theorem row4096_at (v : FVec Ideal S4096 .f32) (b : Fin 16) (n : Fin 8) (c : Fin 4096) : row4096 v (ix3 b n c) = v (ix1 c) := by
  pointwise [row4096]

theorem embed_at (p : FVec Ideal S16x8x128 .f32) (w : FVec Ideal S4096x128 .f32) (v : FVec Ideal S4096 .f32) (b : Fin 16) (n : Fin 8) (c : Fin 4096) :
    embed p w v (ix3 b n c) = lin (fun c d => w (ix2 c d)) (fun c => v (ix1 c)) (fun d => p (ix3 b n d)) c := by
  pointwise [embed, row4096]
  rfl

theorem meansE_at (z : FVec Ideal S16x8x4096 .f32) (b : Fin 16) (n : Fin 8) (u : Fin 1) :
    meansE z (ix3 b n u) = mean 0x45800000#32 fun c => z (ix3 b n c) := by
  pointwise [meansE]
  rfl

theorem centeredE_at (z : FVec Ideal S16x8x4096 .f32) (b : Fin 16) (n : Fin 8) (c : Fin 4096) :
    centeredE z (ix3 b n c) = center 0x45800000#32 (fun c => z (ix3 b n c)) c := by
  pointwise [centeredE]
  rw [meansE_at]
  rfl

theorem normedE_at (z : FVec Ideal S16x8x4096 .f32) (g v : FVec Ideal S4096 .f32) (b : Fin 16) (n : Fin 8) (c : Fin 4096) :
    normedE z g v (ix3 b n c) = norm 0x45800000#32 (fun c => g (ix1 c)) (fun c => v (ix1 c)) (fun c => z (ix3 b n c)) c := by
  pointwise [normedE]
  simp only [meansE_at, row4096_at]
  pointwise
  simp only [centeredE_at]
  rfl

/-- The reference's arguments as plain functions. -/
def pars (V0 : Valuation τ sig (Elt Ideal)) : EncP where
  tw c t := (V0 (Proc.devRef .tc main_arg1) : FVec Ideal S128x100 .f32) (ix2 c t)
  tb c := (V0 (Proc.devRef .tc main_arg2) : FVec Ideal S128 .f32) (ix1 c)
  wq c d := (V0 (Proc.devRef .tc main_arg3) : FVec Ideal S128x128 .f32) (ix2 c d)
  bq c := (V0 (Proc.devRef .tc main_arg4) : FVec Ideal S128 .f32) (ix1 c)
  wk c d := (V0 (Proc.devRef .tc main_arg5) : FVec Ideal S128x128 .f32) (ix2 c d)
  bk c := (V0 (Proc.devRef .tc main_arg6) : FVec Ideal S128 .f32) (ix1 c)
  l0 := par (layer0 V0)
  l1 := par (layer1 V0)
  qt n d := (V0 (Proc.devRef .tc main_arg23) : FVec Ideal S1x8x128 .f32) (ix3 0 n d)
  pw c d := (V0 (Proc.devRef .tc main_arg19) : FVec Ideal S4096x128 .f32) (ix2 c d)
  pb c := (V0 (Proc.devRef .tc main_arg20) : FVec Ideal S4096 .f32) (ix1 c)
  lg c := (V0 (Proc.devRef .tc main_arg21) : FVec Ideal S4096 .f32) (ix1 c)
  lb c := (V0 (Proc.devRef .tc main_arg22) : FVec Ideal S4096 .f32) (ix1 c)

theorem front_at (V0 : Valuation τ sig (Elt Ideal)) (b : Fin 16) :
    bat (front V0) b = Cert.Enc.gra (pars V0) fun t r => (V0 (Proc.devRef .tc main_arg0) : FVec Ideal S16x100x200 .f32) (ix3 b t r) := by
  funext r c
  unfold front
  refine (graph_at _ _ _ _ _ b r c).trans ?_
  have h : ∀ r, bat (feats (V0 (Proc.devRef .tc main_arg0)) (V0 (Proc.devRef .tc main_arg1)) (V0 (Proc.devRef .tc main_arg2))) b r
      = Cert.Enc.hrow (pars V0) (fun t r => (V0 (Proc.devRef .tc main_arg0) : FVec Ideal S16x100x200 .f32) (ix3 b t r)) r :=
    fun r => funext fun c => feats_at _ _ _ b r c
  have h' := funext h
  rw [h']
  rfl

/-- The reference's result is the encoder of each batch. -/
theorem total_at (V0 : Valuation τ sig (Elt Ideal)) (b : Fin 16) (n : Fin 8) (c : Fin 4096) :
    total V0 (ix3 b n c)
      = Cert.Enc.enc (pars V0) (fun t r => (V0 (Proc.devRef .tc main_arg0) : FVec Ideal S16x100x200 .f32) (ix3 b t r)) n c := by
  unfold total Cert.Enc.enc
  refine (normedE_at _ _ _ b n c).trans ?_
  simp only [embed_at, pool_at, layer_at, front_at]
  rfl

end Cert.Ref

end
-- ==== Proof.RefArgs.lean ====
/- The reference's parameters are the encoder's parameters read from its argument arrays. -/
module

public import proofs.«01_k».proof.Proof.Args
public import proofs.«01_k».proof.Proof.RefAt

@[expose] public section

set_option maxRecDepth 16384

noncomputable section

namespace Cert.Ref

open Cert.ReferenceIdeal Idealize.ShloMosaic Idealize.SL.Sem

/-- The reference's arguments. -/
def args (V0 : Valuation τ sig (Elt Ideal)) : Cert.Enc.Args where
  x := V0 (Proc.devRef .tc main_arg0)
  tw := V0 (Proc.devRef .tc main_arg1)
  tb := V0 (Proc.devRef .tc main_arg2)
  wq := V0 (Proc.devRef .tc main_arg3)
  bq := V0 (Proc.devRef .tc main_arg4)
  wk := V0 (Proc.devRef .tc main_arg5)
  bk := V0 (Proc.devRef .tc main_arg6)
  g1 := V0 (Proc.devRef .tc main_arg7)
  b1 := V0 (Proc.devRef .tc main_arg8)
  qkvw := V0 (Proc.devRef .tc main_arg9)
  qkvb := V0 (Proc.devRef .tc main_arg10)
  ow := V0 (Proc.devRef .tc main_arg11)
  ob := V0 (Proc.devRef .tc main_arg12)
  g2 := V0 (Proc.devRef .tc main_arg13)
  b2 := V0 (Proc.devRef .tc main_arg14)
  w1 := V0 (Proc.devRef .tc main_arg15)
  c1 := V0 (Proc.devRef .tc main_arg16)
  w2 := V0 (Proc.devRef .tc main_arg17)
  c2 := V0 (Proc.devRef .tc main_arg18)
  pw := V0 (Proc.devRef .tc main_arg19)
  pb := V0 (Proc.devRef .tc main_arg20)
  lg := V0 (Proc.devRef .tc main_arg21)
  lb := V0 (Proc.devRef .tc main_arg22)
  qt := V0 (Proc.devRef .tc main_arg23)

theorem par_layer0 (V0 : Valuation τ sig (Elt Ideal)) : par (layer0 V0) = (args V0).lay 0 := by
  unfold par layer0 args Cert.Enc.Args.lay
  dsimp only
  congr 1 <;> (funext; pointwise)

theorem par_layer1 (V0 : Valuation τ sig (Elt Ideal)) : par (layer1 V0) = (args V0).lay 1 := by
  unfold par layer1 args Cert.Enc.Args.lay
  dsimp only
  congr 1 <;> (funext; pointwise)

theorem pars_eq (V0 : Valuation τ sig (Elt Ideal)) : pars V0 = (args V0).enc := by
  unfold pars Cert.Enc.Args.enc
  rw [par_layer0, par_layer1]
  rfl

/-- The reference's result at an index, from its arguments. -/
theorem total_out (V0 : Valuation τ sig (Elt Ideal)) (b : Fin 16) (n : Fin 8) (c : Fin 4096) :
    total V0 (ix3 b n c) = (args V0).out b n c := by
  rw [total_at, pars_eq]
  rfl

end Cert.Ref

end
-- ==== Proof.ConvMath.lean ====
/- The convolved signal's mathematics on the extended reals, channel by channel: what a channel's 16
   sequences of 100 samples go through. -/
module

public import proofs.«01_k».proof.Proof.NormAt

@[expose] public section

noncomputable section

namespace Cert.Conv

open Idealize.ShloMosaic

/-- A sample, the two infinities replaced by the numbers of largest magnitude. -/
def clean (x : EReal) : EReal :=
  let y := if x = Ideal.ofBits .f32 0x7F800000#32 then Ideal.ofBits .f32 0x7F7FFFFF#32 else x
  if y = Ideal.ofBits .f32 0xFF800000#32 then Ideal.ofBits .f32 0xFF7FFFFF#32 else y

/-- The sample before, zero before the first. -/
def prv (x : Fin 100 → EReal) (t : Fin 100) : EReal := if h : t.val < 1 then 0 else x ⟨t.val - 1, by omega⟩

/-- The sample after, zero after the last. -/
def nxt (x : Fin 100 → EReal) (t : Fin 100) : EReal := if h : t.val < 99 then x ⟨1 + t.val, by omega⟩ else 0

/-- A sequence convolved with three weights. -/
def conv (w : Fin 3 → EReal) (x : Fin 100 → EReal) (t : Fin 100) : EReal := w 0 * prv x t + w 1 * x t + w 2 * nxt x t

/-- The mean of a channel's samples. -/
def mean (y : Fin 16 → Fin 100 → EReal) : EReal := Ideal.div (∑ n, ∑ t, y n t) (Ideal.ofBits .f32 0x44C80000#32)

/-- The mean of a channel's squared distances from its mean, and the small constant. -/
def spread (y : Fin 16 → Fin 100 → EReal) : EReal :=
  mean (fun n t => (y n t - mean y) * (y n t - mean y)) + Ideal.ofBits .f32 0x3727C5AC#32

/-- A channel normalized over its samples, with gain and offset, and rectified. -/
def act (g b : EReal) (y : Fin 16 → Fin 100 → EReal) (n : Fin 16) (t : Fin 100) : EReal :=
  max (Ideal.div (y n t - mean y) (Ideal.sqrt (spread y)) * g + b) 0

theorem pos_1600 : 0 < Ideal.ofBits .f32 0x44C80000#32 := by
  simp [Ideal.ofBits, Ideal.ieee, -EReal.coe_mul]

theorem spread_pos (y : Fin 16 → Fin 100 → EReal) : 0 < spread y :=
  Cert.Enc.pos_eps.trans_le (le_add_of_nonneg_left (Cert.Enc.div_nonneg' _ _
    (Finset.sum_nonneg fun _ _ => Finset.sum_nonneg fun _ _ => Cert.Enc.square_nonneg _) pos_1600))

/-- The same by the reciprocal root. -/
theorem act_rsqrt (g b : EReal) (y : Fin 16 → Fin 100 → EReal) (n : Fin 16) (t : Fin 100) :
    act g b y n t = max ((y n t - mean y) * Ideal.rsqrt (spread y) * g + b) 0 := by
  rw [act, Cert.Enc.mul_rsqrt _ _ (spread_pos y)]

/-- The six products of two channels' convolutions, summed tap by tap. -/
theorem taps (a0 a1 a2 b0 b1 b2 : EReal) : a0 + b0 + (a1 + b1) + (a2 + b2) = a0 + a1 + a2 + (b0 + b1 + b2) := by
  rw [add_add_add_comm a0 b0, add_add_add_comm (a0 + a1) (b0 + b1)]

/-- The parameters, the first convolution's two channels of every region, the second's one. -/
structure Args where
  x : Fin 16 → Fin 100 → Fin 200 → EReal
  w1 : Fin 400 → Fin 3 → EReal
  c1 : Fin 400 → EReal
  g1 : Fin 400 → EReal
  h1 : Fin 400 → EReal
  w2 : Fin 200 → Fin 2 → Fin 3 → EReal
  c2 : Fin 200 → EReal
  g2 : Fin 200 → EReal
  h2 : Fin 200 → EReal

/-- Region `r`'s channel `s`. -/
def chan (r : Fin 200) (s : Fin 2) : Fin 400 := ⟨r.val * 2 + s.val, by omega⟩

/-- The first convolution, normalized and rectified, of region `r`'s channel `s`. -/
def Args.hidden (A : Args) (r : Fin 200) (s : Fin 2) : Fin 16 → Fin 100 → EReal :=
  act (A.g1 (chan r s)) (A.h1 (chan r s)) fun n t => conv (A.w1 (chan r s)) (fun t => clean (A.x n t r)) t + A.c1 (chan r s)

/-- The second, of region `r`. -/
def Args.out (A : Args) (n : Fin 16) (t : Fin 100) (r : Fin 200) : EReal :=
  act (A.g2 r) (A.h2 r)
    (fun n t => conv (A.w2 r 0) (A.hidden r 0 n) t + conv (A.w2 r 1) (A.hidden r 1 n) t + A.c2 r) n t

end Cert.Conv

end
-- ==== Proof.ConvBody.lean ====
/- The convolution kernel's body as steps, each read at an index, and what it leaves in the output block. -/
module

public import proofs.«01_k».proof.Proof.ConvMath
public import proofs.«01_k».proof.Proof.Gen.Kernel2Ideal.Frame
public import Idealize.ShloMosaic.Lib.Pipeline.ValueKit

@[expose] public section

set_option maxRecDepth 16384

noncomputable section

namespace Cert.Conv

open Cert.Kernel2Ideal Cert.Kernel2Ideal.Gen Idealize.ShloMosaic Idealize.SL.Sem

section steps
variable {F : FTy → Type} [FloatOps F]

/-- Every sequence delayed by one sample. -/
def delayed (x : FVec F S16x100x200 .f32) : FVec F S16x100x200 .f32 :=
  concatenate S16x100x200 1 [⟨S16x1x200, broadcast S16x1x200 (Scalar.ofBits .f32 0x00000000#32)⟩,
    ⟨S16x99x200, extractStridedSlice S16x99x200 ![0, 0, 0] x slices_S16x100x200_o0_0_0_S16x99x200⟩] concatenates_S16x1x200_S16x99x200_S16x100x200_d1

/-- Every sequence advanced by one sample. -/
def advanced (x : FVec F S16x100x200 .f32) : FVec F S16x100x200 .f32 :=
  concatenate S16x100x200 1 [⟨S16x99x200, extractStridedSlice S16x99x200 ![0, 1, 0] x slices_S16x100x200_o0_1_0_S16x99x200⟩,
    ⟨S16x1x200, broadcast S16x1x200 (Scalar.ofBits .f32 0x00000000#32)⟩] concatenates_S16x99x200_S16x1x200_S16x100x200_d1

/-- A weight of every channel times every sample. -/
def scaled (w : FVec F S1x1x200 .f32) (x : FVec F S16x100x200 .f32) : FVec F S16x100x200 .f32 :=
  mulf (broadcastTo S16x100x200 (shapeCast S1x1x200 (shapeCast S1x200 w shapeCasts_S1x1x200_S1x200) shapeCasts_S1x200_S1x1x200) broadcasts_S1x1x200_S16x100x200) x

/-- An offset of every channel added. -/
def shifted (x : FVec F S16x100x200 .f32) (b : FVec F S1x1x200 .f32) : FVec F S16x100x200 .f32 :=
  addf x (broadcastTo S16x100x200 (shapeCast S1x1x200 b shapeCasts_S1x1x200_S1x1x200) broadcasts_S1x1x200_S16x100x200)

/-- Every channel's mean. -/
def means (y : FVec F S16x100x200 .f32) : FVec F S1x1x200 .f32 :=
  divf (shapeCast S1x1x200 (multiReduction .add [0, 1] S200 y 0x00000000#32 reduces_S16x100x200_S200 (.inl rfl) rfl) shapeCasts_S200_S1x1x200)
    (broadcast S1x1x200 (Scalar.ofBits .f32 0x44C80000#32))

/-- Every channel less its mean. -/
def centered (y : FVec F S16x100x200 .f32) : FVec F S16x100x200 .f32 :=
  subf y (broadcastTo S16x100x200 (means y) broadcasts_S1x1x200_S16x100x200)

/-- Every channel normalized, with gain and offset, and rectified. -/
def normed (y : FVec F S16x100x200 .f32) (g h : FVec F S1x1x200 .f32) : FVec F S16x100x200 .f32 :=
  maximumf (addf (mulf (mulf (centered y)
      (broadcastTo S16x100x200 (rsqrt (addf (means (mulf (centered y) (centered y))) (broadcast S1x1x200 (Scalar.ofBits .f32 0x3727C5AC#32)))) broadcasts_S1x1x200_S16x100x200))
      (broadcastTo S16x100x200 (shapeCast S1x1x200 g shapeCasts_S1x1x200_S1x1x200) broadcasts_S1x1x200_S16x100x200))
      (broadcastTo S16x100x200 (shapeCast S1x1x200 h shapeCasts_S1x1x200_S1x1x200) broadcasts_S1x1x200_S16x100x200))
    (broadcast S16x100x200 (Scalar.ofBits .f32 0x00000000#32))

/-- The first, second and third row of weights, and a single row, loaded. -/
def row0 (w : FVec F S3x1x200 .f32) : FVec F S1x1x200 .f32 := View.ld (Val := Elt F) (e' := .f32) w r0_1
def row1 (w : FVec F S3x1x200 .f32) : FVec F S1x1x200 .f32 := View.ld (Val := Elt F) (e' := .f32) w r0_2
def row2 (w : FVec F S3x1x200 .f32) : FVec F S1x1x200 .f32 := View.ld (Val := Elt F) (e' := .f32) w r0_3
def row (b : FVec F S1x1x200 .f32) : FVec F S1x1x200 .f32 := View.ld (Val := Elt F) (e' := .f32) b r0_4

/-- The cleaned samples. -/
def cleaned (x : FVec F S16x100x200 .f32) : FVec F S16x100x200 .f32 := k0_pay2 (View.ld (Val := Elt F) (e' := .f32) x r0_0)

/-- One of the two hidden channels of every region. -/
def first (x : FVec F S16x100x200 .f32) (w : FVec F S3x1x200 .f32) (b g h : FVec F S1x1x200 .f32) : FVec F S16x100x200 .f32 :=
  normed (shifted (addf (addf (scaled (row0 w) (delayed x)) (scaled (row1 w) x)) (scaled (row2 w) (advanced x)))
    (row b)) (row g) (row h)

/-- The result from the two hidden channels. -/
def second (p q : FVec F S16x100x200 .f32) (v w : FVec F S3x1x200 .f32) (b g h : FVec F S1x1x200 .f32) : FVec F S16x100x200 .f32 :=
  normed (shifted (addf (addf (addf (addf (addf (scaled (row0 v) (delayed p)) (scaled (row1 v) p)) (scaled (row2 v) (advanced p)))
    (scaled (row0 w) (delayed q))) (scaled (row1 w) q)) (scaled (row2 w) (advanced q)))
    (row b)) (row g) (row h)

/-- The kernel's result from its blocks. -/
def total (x0 : FVec F S16x100x200 .f32) (x1 x2 : FVec F S3x1x200 .f32) (x3 x4 x5 x6 x7 x8 : FVec F S1x1x200 .f32) (x9 x10 : FVec F S3x1x200 .f32)
    (x11 x12 x13 : FVec F S1x1x200 .f32) : FVec F S16x100x200 .f32 :=
  second (first (cleaned x0) x1 x3 x5 x7) (first (cleaned x0) x2 x4 x6 x8) x9 x10 x11 x12 x13

theorem out_eq (x0 : FVec F S16x100x200 .f32) (x1 x2 : FVec F S3x1x200 .f32) (x3 x4 x5 x6 x7 x8 : FVec F S1x1x200 .f32) (x9 x10 : FVec F S3x1x200 .f32)
    (x11 x12 x13 : FVec F S1x1x200 .f32) :
    out0_14 x0 x1 x2 x3 x4 x5 x6 x7 x8 x9 x10 x11 x12 x13 = View.canon [⟨r0_0, total x0 x1 x2 x3 x4 x5 x6 x7 x8 x9 x10 x11 x12 x13⟩] := rfl

end steps

theorem clean_at (x : FVec Ideal S16x100x200 .f32) (n : Fin 16) (t : Fin 100) (r : Fin 200) :
    cleaned x (ix3 n t r) = clean (x (ix3 n t r)) := by
  pointwise [cleaned, k0_pay2]
  simp [clean]

theorem delayed_at (x : FVec Ideal S16x100x200 .f32) (n : Fin 16) (t : Fin 100) (r : Fin 200) :
    delayed x (ix3 n t r) = prv (fun t => x (ix3 n t r)) t := by
  pointwise [delayed]
  unfold prv
  rfl

theorem advanced_at (x : FVec Ideal S16x100x200 .f32) (n : Fin 16) (t : Fin 100) (r : Fin 200) :
    advanced x (ix3 n t r) = nxt (fun t => x (ix3 n t r)) t := by
  pointwise [advanced]
  unfold nxt
  rfl

theorem scaled_at (w : FVec Ideal S1x1x200 .f32) (x : FVec Ideal S16x100x200 .f32) (n : Fin 16) (t : Fin 100) (r : Fin 200) :
    scaled w x (ix3 n t r) = w (ix3 0 0 r) * x (ix3 n t r) := by
  pointwise [scaled]

theorem shifted_at (x : FVec Ideal S16x100x200 .f32) (b : FVec Ideal S1x1x200 .f32) (n : Fin 16) (t : Fin 100) (r : Fin 200) :
    shifted x b (ix3 n t r) = x (ix3 n t r) + b (ix3 0 0 r) := by
  pointwise [shifted]

/-- A sum over the sequences and the samples. -/
theorem sum_at (y : FVec Ideal S16x100x200 .f32) (r : Fin 200) :
    Ideal.reduceAdd reduces_S16x100x200_S200 y (ix1 r) = ∑ n : Fin 16, ∑ t : Fin 100, y (ix3 n t r) := by
  refine (Finset.sum_filter_eq_sum_of_fiber _ (fun k : Fin 16 × Fin 100 => ix3 k.1 k.2 r)
    (fun _ _ e => Prod.ext (congrFun e 0) (congrFun e 1)) (fun i => ⟨fun e => ?_, ?_⟩) y).trans ?_
  · refine ⟨(i 0, i 1), ?_⟩
    funext a
    apply Fin.ext
    fin_cases a
    · rfl
    · rfl
    · exact (congrArg Fin.val (congrFun e 0)).symm
  · rintro ⟨k, rfl⟩
    funext a
    apply Fin.ext
    fin_cases a
    rfl
  · simp only [Fintype.sum_prod_type]

theorem means_at (y : FVec Ideal S16x100x200 .f32) (r : Fin 200) : means y (ix3 0 0 r) = mean (fun n t => y (ix3 n t r)) := by
  pointwise [means]
  rw [sum_at]
  rfl

theorem centered_at (y : FVec Ideal S16x100x200 .f32) (n : Fin 16) (t : Fin 100) (r : Fin 200) :
    centered y (ix3 n t r) = y (ix3 n t r) - mean (fun n t => y (ix3 n t r)) := by
  rw [← means_at]
  pointwise [centered]

theorem normed_at (y : FVec Ideal S16x100x200 .f32) (g h : FVec Ideal S1x1x200 .f32) (n : Fin 16) (t : Fin 100) (r : Fin 200) :
    normed y g h (ix3 n t r) = act (g (ix3 0 0 r)) (h (ix3 0 0 r)) (fun n t => y (ix3 n t r)) n t := by
  rw [act_rsqrt, ← centered_at]
  have e : spread (fun n t => y (ix3 n t r)) = means (mulf (centered y) (centered y)) (ix3 0 0 r) + Ideal.ofBits .f32 0x3727C5AC#32 := by
    rw [means_at, spread]
    simp only [← centered_at]
    rfl
  rw [e]
  pointwise [normed]

theorem first_at (x : FVec Ideal S16x100x200 .f32) (w : FVec Ideal S3x1x200 .f32) (b g h : FVec Ideal S1x1x200 .f32) (n : Fin 16) (t : Fin 100)
    (r : Fin 200) :
    first x w b g h (ix3 n t r) = act (g (ix3 0 0 r)) (h (ix3 0 0 r))
      (fun n t => conv (fun k => w (ix3 k 0 r)) (fun t => x (ix3 n t r)) t + b (ix3 0 0 r)) n t := by
  rw [first, normed_at]
  congr 1
  · pointwise [row]
  · pointwise [row]
  · funext n t
    rw [shifted_at]
    show scaled _ _ _ + scaled _ _ _ + scaled _ _ _ + _ = _
    simp only [scaled_at, delayed_at, advanced_at]
    pointwise [row, row0, row1, row2]
    rfl

theorem second_at (p q : FVec Ideal S16x100x200 .f32) (v w : FVec Ideal S3x1x200 .f32) (b g h : FVec Ideal S1x1x200 .f32) (n : Fin 16) (t : Fin 100)
    (r : Fin 200) :
    second p q v w b g h (ix3 n t r) = act (g (ix3 0 0 r)) (h (ix3 0 0 r))
      (fun n t => conv (fun k => v (ix3 k 0 r)) (fun t => p (ix3 n t r)) t + conv (fun k => w (ix3 k 0 r)) (fun t => q (ix3 n t r)) t
        + b (ix3 0 0 r)) n t := by
  rw [second, normed_at]
  congr 1
  · pointwise [row]
  · pointwise [row]
  · funext n t
    rw [shifted_at]
    show scaled _ _ _ + scaled _ _ _ + scaled _ _ _ + scaled _ _ _ + scaled _ _ _ + scaled _ _ _ + _ = _
    simp only [scaled_at, delayed_at, advanced_at, conv, ← add_assoc]
    pointwise [row, row0, row1, row2]

end Cert.Conv

end
-- ==== Proof.ConvValue.lean ====
/- The convolution kernel's result, at an index: the parameters' arrays read through the windows. -/
module

public import proofs.«01_k».proof.Proof.ConvBody
public import proofs.«01_k».proof.Proof.Gen.Kernel2Ideal.Value
public import Idealize.ShloMosaic.Lib.Claim
public import Idealize.ShloMosaic.Lib.StableHlo.ReadAt
public import Idealize.ShloMosaic.Lib.Tactic.WordOmega

@[expose] public section

set_option maxRecDepth 16384

noncomputable section

namespace Cert.Conv

open Cert.Kernel2Ideal Cert.Kernel2Ideal.Gen Idealize.ShloMosaic Idealize.ShloMosaic.TcCoe Idealize.SL.Sem

/-- The parameters read from the argument arrays. -/
def ofArrays (x : FVec Ideal S16x100x200 .f32) (w1 : FVec Ideal S400x1x3 .f32) (c1 g1 h1 : FVec Ideal S400 .f32) (w2 : FVec Ideal S200x2x3 .f32)
    (c2 g2 h2 : FVec Ideal S200 .f32) : Args where
  x n t r := x (ix3 n t r)
  w1 i k := w1 (ix3 i 0 k)
  c1 i := c1 (ix1 i)
  g1 i := g1 (ix1 i)
  h1 i := h1 (ix1 i)
  w2 r s k := w2 (ix3 r s k)
  c2 r := c2 (ix1 r)
  g2 r := g2 (ix1 r)
  h2 r := h2 (ix1 r)

variable (m : (ℓ : Loc nD τ sig) → Buf (Elt Ideal) ℓ)

/-- Core `c`'s parameters. -/
def args (c : Dev nD) : Args :=
  ofArrays (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8))

/-- Every window is its whole array. -/
theorem idxA : ∀ t : Fin cfg0.N, win0_0.index t = ![0, 0, 0] ∧ win0_1.index t = ![0, 0, 0] ∧ win0_2.index t = ![0, 0, 0] ∧ win0_3.index t = ![0, 0, 0]
    ∧ win0_4.index t = ![0, 0, 0] ∧ win0_5.index t = ![0, 0, 0] ∧ win0_6.index t = ![0, 0, 0] ∧ win0_7.index t = ![0, 0, 0] :=
  (by decide +kernel : ∀ t : Fin grid0.N, _)

theorem idxB : ∀ t : Fin cfg0.N, win0_8.index t = ![0, 0, 0] ∧ win0_9.index t = ![0, 0, 0] ∧ win0_10.index t = ![0, 0, 0] ∧ win0_11.index t = ![0, 0, 0]
    ∧ win0_12.index t = ![0, 0, 0] ∧ win0_13.index t = ![0, 0, 0] ∧ win0_14.index t = ![0, 0, 0] :=
  (by decide +kernel : ∀ t : Fin grid0.N, _)

variable (c : Dev nD) (t : Fin cfg0.N)

theorem x_at (n : Fin 16) (i : Fin 100) (r : Fin 200) : (iblk m c 0 t : FVec Ideal S16x100x200 .f32) (ix3 n i r) = (args m c).x n i r := by
  show _ = m ((c : Thread nD τ).loc main_arg0) (ix3 n i r)
  blk_ext [iblk, V, idxA t]

/-- What the windows hold, the host's reshapes, slices and transposes read through. -/
theorem w1a_at (k : Fin 3) (r : Fin 200) : (iblk m c 1 t : FVec Ideal S3x1x200 .f32) (ix3 k 0 r) = (args m c).w1 (chan r 0) k :=
  (show _ = (V m c main_v4 : FVec Ideal S3x1x200 .f32) (ix3 k 0 r) by blk_ext [iblk, idxA t]).trans (by unfold V; after_reads_at; rfl)

theorem w1b_at (k : Fin 3) (r : Fin 200) : (iblk m c 2 t : FVec Ideal S3x1x200 .f32) (ix3 k 0 r) = (args m c).w1 (chan r 1) k :=
  (show _ = (V m c main_v8 : FVec Ideal S3x1x200 .f32) (ix3 k 0 r) by blk_ext [iblk, idxA t]).trans (by unfold V; after_reads_at; rfl)

theorem c1a_at (r : Fin 200) : (iblk m c 3 t : FVec Ideal S1x1x200 .f32) (ix3 0 0 r) = (args m c).c1 (chan r 0) :=
  (show _ = (V m c main_v12 : FVec Ideal S1x1x200 .f32) (ix3 0 0 r) by blk_ext [iblk, idxA t]).trans (by unfold V; after_reads_at; rfl)

theorem c1b_at (r : Fin 200) : (iblk m c 4 t : FVec Ideal S1x1x200 .f32) (ix3 0 0 r) = (args m c).c1 (chan r 1) :=
  (show _ = (V m c main_v15 : FVec Ideal S1x1x200 .f32) (ix3 0 0 r) by blk_ext [iblk, idxA t]).trans (by unfold V; after_reads_at; rfl)

theorem g1a_at (r : Fin 200) : (iblk m c 5 t : FVec Ideal S1x1x200 .f32) (ix3 0 0 r) = (args m c).g1 (chan r 0) :=
  (show _ = (V m c main_v19 : FVec Ideal S1x1x200 .f32) (ix3 0 0 r) by blk_ext [iblk, idxA t]).trans (by unfold V; after_reads_at; rfl)

theorem g1b_at (r : Fin 200) : (iblk m c 6 t : FVec Ideal S1x1x200 .f32) (ix3 0 0 r) = (args m c).g1 (chan r 1) :=
  (show _ = (V m c main_v22 : FVec Ideal S1x1x200 .f32) (ix3 0 0 r) by blk_ext [iblk, idxA t]).trans (by unfold V; after_reads_at; rfl)

theorem h1a_at (r : Fin 200) : (iblk m c 7 t : FVec Ideal S1x1x200 .f32) (ix3 0 0 r) = (args m c).h1 (chan r 0) :=
  (show _ = (V m c main_v26 : FVec Ideal S1x1x200 .f32) (ix3 0 0 r) by blk_ext [iblk, idxA t]).trans (by unfold V; after_reads_at; rfl)

theorem h1b_at (r : Fin 200) : (iblk m c 8 t : FVec Ideal S1x1x200 .f32) (ix3 0 0 r) = (args m c).h1 (chan r 1) :=
  (show _ = (V m c main_v29 : FVec Ideal S1x1x200 .f32) (ix3 0 0 r) by blk_ext [iblk, idxB t]).trans (by unfold V; after_reads_at; rfl)

theorem w2a_at (k : Fin 3) (r : Fin 200) : (iblk m c 9 t : FVec Ideal S3x1x200 .f32) (ix3 k 0 r) = (args m c).w2 r 0 k :=
  (show _ = (V m c main_v33 : FVec Ideal S3x1x200 .f32) (ix3 k 0 r) by blk_ext [iblk, idxB t]).trans (by unfold V; after_reads_at; rfl)

theorem w2b_at (k : Fin 3) (r : Fin 200) : (iblk m c 10 t : FVec Ideal S3x1x200 .f32) (ix3 k 0 r) = (args m c).w2 r 1 k :=
  (show _ = (V m c main_v37 : FVec Ideal S3x1x200 .f32) (ix3 k 0 r) by blk_ext [iblk, idxB t]).trans (by unfold V; after_reads_at; rfl)

theorem c2_at (r : Fin 200) : (iblk m c 11 t : FVec Ideal S1x1x200 .f32) (ix3 0 0 r) = (args m c).c2 r :=
  (show _ = (V m c main_v38 : FVec Ideal S1x1x200 .f32) (ix3 0 0 r) by blk_ext [iblk, idxB t]).trans (by unfold V; after_reads_at; rfl)

theorem g2_at (r : Fin 200) : (iblk m c 12 t : FVec Ideal S1x1x200 .f32) (ix3 0 0 r) = (args m c).g2 r :=
  (show _ = (V m c main_v39 : FVec Ideal S1x1x200 .f32) (ix3 0 0 r) by blk_ext [iblk, idxB t]).trans (by unfold V; after_reads_at; rfl)

theorem h2_at (r : Fin 200) : (iblk m c 13 t : FVec Ideal S1x1x200 .f32) (ix3 0 0 r) = (args m c).h2 r :=
  (show _ = (V m c main_v40 : FVec Ideal S1x1x200 .f32) (ix3 0 0 r) by blk_ext [iblk, idxB t]).trans (by unfold V; after_reads_at; rfl)

/-- The body's result from the windows is the convolved signal. -/
theorem total_at (n : Fin 16) (i : Fin 100) (r : Fin 200) :
    total (F := Ideal) (iblk m c 0 t) (iblk m c 1 t) (iblk m c 2 t) (iblk m c 3 t) (iblk m c 4 t) (iblk m c 5 t) (iblk m c 6 t) (iblk m c 7 t) (iblk m c 8 t)
      (iblk m c 9 t) (iblk m c 10 t) (iblk m c 11 t) (iblk m c 12 t) (iblk m c 13 t) (ix3 n i r) = (args m c).out n i r := by
  unfold total
  refine (second_at _ _ _ _ _ _ _ n i r).trans ?_
  simp only [first_at, clean_at, x_at, w1a_at, w1b_at, c1a_at, c1b_at, g1a_at, g1b_at, h1a_at, h1b_at, w2a_at, w2b_at, c2_at, g2_at, h2_at]
  rfl

/-- What the body leaves in the output block. -/
theorem after_at (y : S16x100x200.Idx) : (dats m 0 c).after 14 t y = (args m c).out (y 0) (y 1) (y 2) := by
  rw [after0_14, out_eq]
  have hc := cover0_14 (F := Ideal) (total (F := Ideal) (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (iblk m c 12 t) (iblk m c 13 t)) y
  canon_tiles x h using hc
  have hx : x = ix3 (y 0) (y 1) (y 2) := by
    funext a
    apply Fin.ext
    fin_cases a
    · exact h0.symm
    · exact h1.symm
    · exact h2.symm
  rw [hx]
  exact total_at m c t _ _ _

/-- The kernel's result. -/
def result : FVec Ideal S16x100x200 .f32 := fun y => (args m c).out (y 0) (y 1) (y 2)

theorem final : (dats m 0 c).arrAt 14 cfg0.N = result m c := by
  refine (dats m 0 c).arrAt_eq_of_covers 14 _ (by decide +kernel) fun t hf y => ?_
  blk_simp
  have e0 : (((win0_14.blk t).view.emb y 0 : Fin 16) : ℕ) = (y 0 : ℕ) := by blk_simp [idxB t]
  have e1 : (((win0_14.blk t).view.emb y 1 : Fin 100) : ℕ) = (y 1 : ℕ) := by blk_simp [idxB t]
  have e2 : (((win0_14.blk t).view.emb y 2 : Fin 200) : ℕ) = (y 2 : ℕ) := by blk_simp [idxB t]
  refine (after_at m c t y).trans ?_
  exact congr (congr (congrArg (args m c).out (Fin.ext e0.symm)) (Fin.ext e1.symm)) (Fin.ext e2.symm)

/-- The kernel ends with its result at `result` and its arguments unchanged. -/
theorem run_result (ρ : Dev nD → PrngReg) :
    θ_run defs (onTc (τ := τ) (main (F := Ideal))) ⟨m, fun _ => 0, ρ⟩ (fun r => ∀ c : Dev nD,
      r.2.mem ((c.tc : Thread nD τ).loc main_v41) = result m c) :=
  θ_run_mono (Cert.Kernel2Ideal.Value.run_blocks m ρ) fun _ h c => (h c).1.trans (final m c)

end Cert.Conv

end
-- ==== Proof.ConvRef.lean ====
/- The convolution's reference as one function of its arguments, in named steps, each read at an index. -/
module

public import proofs.«01_k».proof.Proof.ConvValue
public import proofs.«01_k».proof.Proof.Gen.Reference2Ideal.Run
public import Idealize.ShloMosaic.Lib.Claim

@[expose] public section

set_option maxRecDepth 16384

noncomputable section

namespace Cert.ConvRef

open Cert.Reference2Ideal Cert.Reference2Ideal.Gen Cert.Reference2Ideal.Value Idealize Idealize.ShloMosaic Idealize.SL.Sem Idealize.ShloMosaic.StableHlo
open Cert.Conv (clean prv nxt conv mean spread act chan)

section steps
variable {F : FTy → Type} [FloatOps F]

/-- The samples, not-a-number replaced by zero and the infinities by the numbers of largest magnitude. -/
def cleaned (x : FVec F S16x100x200 .f32) : FVec F S16x100x200 .f32 :=
  have y := select (cmpf .une x x) (broadcastInDim S16x100x200 ![] bcast_S_S16x100x200 (constant S_ .f32 0x00000000#32)) x
  have z := select (cmpf .oeq y (broadcastInDim S16x100x200 ![] bcast_S_S16x100x200 (constant S_ .f32 0x7F800000#32))) (broadcastInDim S16x100x200 ![] bcast_S_S16x100x200 (constant S_ .f32 0x7F7FFFFF#32)) y
  select (cmpf .oeq z (broadcastInDim S16x100x200 ![] bcast_S_S16x100x200 (constant S_ .f32 0xFF800000#32))) (broadcastInDim S16x100x200 ![] bcast_S_S16x100x200 (constant S_ .f32 0xFF7FFFFF#32)) z

/-- The regions' sequences of cleaned samples. -/
def sequences (x : FVec F S16x100x200 .f32) : FVec F S16x200x100 .f32 :=
  transpose S16x200x100 [0, 2, 1] (cleaned x) transposes_S16x100x200_S16x200x100_0_2_1

/-- The regions' sequences with a zero on both sides. -/
def padded1 (x : FVec F S16x200x100 .f32) : FVec F S16x200x1x102 .f32 :=
  shapeCast _ (pad S16x200x102 ![0, 0, 1] ![0, 0, 1] ![0, 0, 0] x (sitofp .f32 (constantI S_ 32 0#32)) pads_S16x200x100_S16x200x102_000_000_110 h_S_) shapeCasts_S16x200x102_S16x200x1x102

/-- The hidden channels' sequences, two a region, with a zero on both sides. -/
def padded2 (x : FVec F S16x400x100 .f32) : FVec F S16x200x2x102 .f32 :=
  shapeCast _ (pad S16x400x102 ![0, 0, 1] ![0, 0, 1] ![0, 0, 0] x (sitofp .f32 (constantI S_ 32 0#32)) pads_S16x400x100_S16x400x102_000_000_110 h_S_) shapeCasts_S16x400x102_S16x200x2x102

/-- A tap of the first convolution: one weight a channel times its region's sequence. -/
def tap1 (w : FVec F S200x2x1x1 .f32) (x : FVec F S16x200x1x100 .f32) : FVec F S16x200x2x100 .f32 :=
  transpose S16x200x2x100 [2, 0, 1, 3] (Host.dotGeneral dot_S200x2x1_S16x200x1x100_S200x2x16x100_2_2_1_03_0_1 none (shapeCast _ w shapeCasts_S200x2x1x1_S200x2x1) x) transposes_S200x2x16x100_S16x200x2x100_2_0_1_3

/-- A tap of the second: two weights a region times its two channels' sequences. -/
def tap2 (w : FVec F S200x1x2x1 .f32) (x : FVec F S16x200x2x100 .f32) : FVec F S16x200x1x100 .f32 :=
  transpose S16x200x1x100 [2, 0, 1, 3] (Host.dotGeneral dot_S200x1x2_S16x200x2x100_S200x1x16x100_2_2_1_03_0_1 none (shapeCast _ w shapeCasts_S200x1x2x1_S200x1x2) x) transposes_S200x1x16x100_S16x200x1x100_2_0_1_3

/-- A number for each of the 400 channels, at every sample. -/
def row400 (b : FVec F S400 .f32) : FVec F S16x400x100 .f32 :=
  broadcastInDim S16x400x100 ![0, 1, 2] bcast_S1x400x1_S16x400x100_0_1_2 (broadcastInDim S1x400x1 ![1] bcast_S400_S1x400x1_1 b)

/-- A number for each of the 200 channels, at every sample. -/
def row200 (b : FVec F S200 .f32) : FVec F S16x200x100 .f32 :=
  broadcastInDim S16x200x100 ![0, 1, 2] bcast_S1x200x1_S16x200x100_0_1_2 (broadcastInDim S1x200x1 ![1] bcast_S200_S1x200x1_1 b)

/-- The first convolution of the padded sequences. -/
def conv1 (w : FVec F S200x2x1x3 .f32) (b : FVec F S400 .f32) (x : FVec F S16x200x1x102 .f32) : FVec F S16x400x100 .f32 :=
  addf (shapeCast _ (addf (addf
      (tap1 (extractStridedSlice S200x2x1x1 ![0, 0, 0, 0] w slices_S200x2x1x3_S200x2x1x1_0_0_0_0) (extractStridedSlice S16x200x1x100 ![0, 0, 0, 0] x slices_S16x200x1x102_S16x200x1x100_0_0_0_0))
      (tap1 (extractStridedSlice S200x2x1x1 ![0, 0, 0, 1] w slices_S200x2x1x3_S200x2x1x1_0_0_0_1) (extractStridedSlice S16x200x1x100 ![0, 0, 0, 1] x slices_S16x200x1x102_S16x200x1x100_0_0_0_1)))
      (tap1 (extractStridedSlice S200x2x1x1 ![0, 0, 0, 2] w slices_S200x2x1x3_S200x2x1x1_0_0_0_2) (extractStridedSlice S16x200x1x100 ![0, 0, 0, 2] x slices_S16x200x1x102_S16x200x1x100_0_0_0_2)))
    shapeCasts_S16x200x2x100_S16x400x100) (row400 b)

/-- The second convolution of the padded sequences. -/
def conv2 (w : FVec F S200x1x2x3 .f32) (b : FVec F S200 .f32) (x : FVec F S16x200x2x102 .f32) : FVec F S16x200x100 .f32 :=
  addf (shapeCast _ (addf (addf
      (tap2 (extractStridedSlice S200x1x2x1 ![0, 0, 0, 0] w slices_S200x1x2x3_S200x1x2x1_0_0_0_0) (extractStridedSlice S16x200x2x100 ![0, 0, 0, 0] x slices_S16x200x2x102_S16x200x2x100_0_0_0_0))
      (tap2 (extractStridedSlice S200x1x2x1 ![0, 0, 0, 1] w slices_S200x1x2x3_S200x1x2x1_0_0_0_1) (extractStridedSlice S16x200x2x100 ![0, 0, 0, 1] x slices_S16x200x2x102_S16x200x2x100_0_0_0_1)))
      (tap2 (extractStridedSlice S200x1x2x1 ![0, 0, 0, 2] w slices_S200x1x2x3_S200x1x2x1_0_0_0_2) (extractStridedSlice S16x200x2x100 ![0, 0, 0, 2] x slices_S16x200x2x102_S16x200x2x100_0_0_0_2)))
    shapeCasts_S16x200x1x100_S16x200x100) (row200 b)

/-- Each of the 400 channels' mean. -/
def means1 (y : FVec F S16x400x100 .f32) : FVec F S1x400x1 .f32 :=
  Host.divf (broadcastInDim S1x400x1 ![1] bcast_S400_S1x400x1_1 (Host.reduceAdd y (constant S_ .f32 0x00000000#32) reducesTo_S16x400x100_S400_d0_2 h_S_)) (broadcastInDim S1x400x1 ![] bcast_S_S1x400x1 (constant S_ .f32 0x44C80000#32))

/-- Each of the 200 channels' mean. -/
def means2 (y : FVec F S16x200x100 .f32) : FVec F S1x200x1 .f32 :=
  Host.divf (broadcastInDim S1x200x1 ![1] bcast_S200_S1x200x1_1 (Host.reduceAdd y (constant S_ .f32 0x00000000#32) reducesTo_S16x200x100_S200_d0_2 h_S_)) (broadcastInDim S1x200x1 ![] bcast_S_S1x200x1 (constant S_ .f32 0x44C80000#32))

def centered1 (y : FVec F S16x400x100 .f32) : FVec F S16x400x100 .f32 :=
  subf y (broadcastInDim S16x400x100 ![0, 1, 2] bcast_S1x400x1_S16x400x100_0_1_2 (means1 y))

def centered2 (y : FVec F S16x200x100 .f32) : FVec F S16x200x100 .f32 :=
  subf y (broadcastInDim S16x200x100 ![0, 1, 2] bcast_S1x200x1_S16x200x100_0_1_2 (means2 y))

/-- Each of the 400 channels normalized and rectified. -/
def normed1 (y : FVec F S16x400x100 .f32) (g b : FVec F S400 .f32) : FVec F S16x400x100 .f32 :=
  maximumf (addf (mulf (Host.divf (centered1 y) (broadcastInDim S16x400x100 ![0, 1, 2] bcast_S1x400x1_S16x400x100_0_1_2 (Host.sqrt (addf (means1 (mulf (centered1 y) (centered1 y)))
    (broadcastInDim S1x400x1 ![] bcast_S_S1x400x1 (constant S_ .f32 0x3727C5AC#32)))))) (row400 g)) (row400 b)) (broadcastInDim S16x400x100 ![] bcast_S_S16x400x100 (constant S_ .f32 0x00000000#32))

/-- Each of the 200 channels normalized and rectified. -/
def normed2 (y : FVec F S16x200x100 .f32) (g b : FVec F S200 .f32) : FVec F S16x200x100 .f32 :=
  maximumf (addf (mulf (Host.divf (centered2 y) (broadcastInDim S16x200x100 ![0, 1, 2] bcast_S1x200x1_S16x200x100_0_1_2 (Host.sqrt (addf (means2 (mulf (centered2 y) (centered2 y)))
    (broadcastInDim S1x200x1 ![] bcast_S_S1x200x1 (constant S_ .f32 0x3727C5AC#32)))))) (row200 g)) (row200 b)) (broadcastInDim S16x200x100 ![] bcast_S_S16x200x100 (constant S_ .f32 0x00000000#32))

/-- The reference's result from its arguments. -/
def total (x : FVec F S16x100x200 .f32) (w1 : FVec F S400x1x3 .f32) (c1 g1 h1 : FVec F S400 .f32) (w2 : FVec F S200x2x3 .f32) (c2 g2 h2 : FVec F S200 .f32) : FVec F S16x100x200 .f32 :=
  transpose S16x100x200 [0, 2, 1]
    (normed2 (conv2 (shapeCast _ w2 shapeCasts_S200x2x3_S200x1x2x3) c2
      (padded2 (normed1 (conv1 (shapeCast _ w1 shapeCasts_S400x1x3_S200x2x1x3) c1
        (padded1 (sequences x))) g1 h1))) g2 h2)
    transposes_S16x200x100_S16x100x200_0_2_1

/-- Every run of the reference ends with `total` of its arguments as its result. -/
theorem run_total (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v100)
        = total (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) (m ((c.tc : Thread nD τ).loc main_arg7))
          (m ((c.tc : Thread nD τ).loc main_arg8)) :=
  θ_run_mono (run m ρ) fun r h c => (h c).1

end steps

theorem cleaned_at (x : FVec Ideal S16x100x200 .f32) (n : Fin 16) (t : Fin 100) (r : Fin 200) :
    cleaned x (ix3 n t r) = clean (x (ix3 n t r)) := by
  pointwise [cleaned]
  simp [clean]

/-- A sequence with a zero on both sides. -/
def wide (y : Fin 100 → EReal) (j : Fin 102) : EReal := if h : 1 ≤ j.val ∧ j.val - 1 < 100 then y ⟨j.val - 1, h.2⟩ else 0

theorem wide_prv (y : Fin 100 → EReal) (t : Fin 100) : wide y ⟨t.val, by omega⟩ = prv y t := by
  have ht := t.isLt
  unfold wide prv
  by_cases h : t.val < 1
  · rw [dif_pos h, dif_neg (by dsimp only; omega)]
  · rw [dif_neg h, dif_pos (by dsimp only; omega)]

theorem wide_mid (y : Fin 100 → EReal) (t : Fin 100) : wide y ⟨1 + t.val, by omega⟩ = y t := by
  have ht := t.isLt
  unfold wide
  rw [dif_pos (by dsimp only; omega)]
  exact congrArg y (Fin.ext (by dsimp only; omega))

theorem wide_nxt (y : Fin 100 → EReal) (t : Fin 100) : wide y ⟨2 + t.val, by omega⟩ = nxt y t := by
  have ht := t.isLt
  unfold wide nxt
  by_cases h : t.val < 99
  · rw [dif_pos h, dif_pos (by dsimp only; omega)]
    exact congrArg y (Fin.ext (by dsimp only; omega))
  · rw [dif_neg h, dif_neg (by dsimp only; omega)]

/-- The padding's number is zero. -/
theorem pad_zero : (FloatOps.sitofp FTy.f32 (0#32) : Ideal .f32) = (0 : EReal) := by
  show (((0#32 : BitVec 32).toInt : ℝ) : EReal) = 0
  simp

theorem padded1_at (x : FVec Ideal S16x200x100 .f32) (n : Fin 16) (r : Fin 200) (j : Fin 102) :
    padded1 x (ix4 n r 0 j) = wide (fun t => x (ix3 n r t)) j := by
  unfold wide
  rw [← pad_zero]
  pointwise [padded1]

theorem padded2_at (x : FVec Ideal S16x400x100 .f32) (n : Fin 16) (r : Fin 200) (s : Fin 2) (j : Fin 102) :
    padded2 x (ix4 n r s j) = wide (fun t => x (ix3 n (chan r s) t)) j := by
  have hr : r.val * 2 + s.val < 400 := by omega
  unfold wide chan
  rw [← pad_zero]
  pointwise [padded2]
  by_cases h : 1 ≤ j.val ∧ j.val - 1 < 100
  · rw [dif_pos h, dif_pos ⟨hr, h⟩]
  · rw [dif_neg h, dif_neg fun k => h k.2]

theorem conv1_at (w : FVec Ideal S200x2x1x3 .f32) (b : FVec Ideal S400 .f32) (x : FVec Ideal S16x200x100 .f32) (n : Fin 16) (r : Fin 200) (s : Fin 2)
    (t : Fin 100) :
    conv1 w b (padded1 x) (ix3 n (chan r s) t) = conv (fun k => w (ix4 r s 0 k)) (fun t => x (ix3 n r t)) t + b (ix1 (chan r s)) := by
  generalize hy : padded1 x = y
  pointwise [conv1, tap1, row400, chan]
  simp only [← hy, padded1_at, wide_prv, wide_mid, wide_nxt, Fin.sum_univ_one]
  rfl

theorem conv2_at (w : FVec Ideal S200x1x2x3 .f32) (b : FVec Ideal S200 .f32) (x : FVec Ideal S16x400x100 .f32) (n : Fin 16) (r : Fin 200)
    (t : Fin 100) :
    conv2 w b (padded2 x) (ix3 n r t) = conv (fun k => w (ix4 r 0 0 k)) (fun t => x (ix3 n (chan r 0) t)) t
      + conv (fun k => w (ix4 r 0 1 k)) (fun t => x (ix3 n (chan r 1) t)) t + b (ix1 r) := by
  generalize hy : padded2 x = y
  pointwise [conv2, tap2, row200]
  simp only [← hy, padded2_at, wide_prv, wide_mid, wide_nxt, Fin.sum_univ_two, Cert.Conv.taps]
  rfl

/-- A sum over the sequences and the samples. -/
theorem sum1_at (y : FVec Ideal S16x400x100 .f32) (r : Fin 400) :
    Ideal.hostReduceAdd reducesTo_S16x400x100_S400_d0_2 y 0 (ix1 r) = ∑ n : Fin 16, ∑ t : Fin 100, y (ix3 n r t) := by
  refine (zero_add _).trans ((Finset.sum_filter_eq_sum_of_fiber _ (fun k : Fin 16 × Fin 100 => ix3 k.1 r k.2)
    (fun _ _ e => Prod.ext (congrFun e 0) (congrFun e 2)) (fun i => ⟨fun e => ?_, ?_⟩) y).trans ?_)
  · refine ⟨(i 0, i 2), ?_⟩
    funext a
    apply Fin.ext
    fin_cases a
    · rfl
    · exact (congrArg Fin.val (congrFun e 0)).symm
    · rfl
  · rintro ⟨k, rfl⟩
    funext a
    apply Fin.ext
    fin_cases a
    rfl
  · simp only [Fintype.sum_prod_type]

theorem means1_at (y : FVec Ideal S16x400x100 .f32) (r : Fin 400) : means1 y (ix3 0 r 0) = mean (fun n t => y (ix3 n r t)) := by
  pointwise [means1]
  rw [sum1_at]
  rfl

theorem centered1_at (y : FVec Ideal S16x400x100 .f32) (n : Fin 16) (r : Fin 400) (t : Fin 100) :
    centered1 y (ix3 n r t) = y (ix3 n r t) - mean (fun n t => y (ix3 n r t)) := by
  rw [← means1_at]
  pointwise [centered1]

theorem normed1_at (y : FVec Ideal S16x400x100 .f32) (g b : FVec Ideal S400 .f32) (n : Fin 16) (r : Fin 400) (t : Fin 100) :
    normed1 y g b (ix3 n r t) = act (g (ix1 r)) (b (ix1 r)) (fun n t => y (ix3 n r t)) n t := by
  rw [act, ← centered1_at]
  have e : spread (fun n t => y (ix3 n r t)) = means1 (mulf (centered1 y) (centered1 y)) (ix3 0 r 0) + Ideal.ofBits .f32 0x3727C5AC#32 := by
    rw [means1_at, spread]
    simp only [← centered1_at]
    rfl
  rw [e]
  pointwise [normed1, row400]

theorem sum2_at (y : FVec Ideal S16x200x100 .f32) (r : Fin 200) :
    Ideal.hostReduceAdd reducesTo_S16x200x100_S200_d0_2 y 0 (ix1 r) = ∑ n : Fin 16, ∑ t : Fin 100, y (ix3 n r t) := by
  refine (zero_add _).trans ((Finset.sum_filter_eq_sum_of_fiber _ (fun k : Fin 16 × Fin 100 => ix3 k.1 r k.2)
    (fun _ _ e => Prod.ext (congrFun e 0) (congrFun e 2)) (fun i => ⟨fun e => ?_, ?_⟩) y).trans ?_)
  · refine ⟨(i 0, i 2), ?_⟩
    funext a
    apply Fin.ext
    fin_cases a
    · rfl
    · exact (congrArg Fin.val (congrFun e 0)).symm
    · rfl
  · rintro ⟨k, rfl⟩
    funext a
    apply Fin.ext
    fin_cases a
    rfl
  · simp only [Fintype.sum_prod_type]

theorem means2_at (y : FVec Ideal S16x200x100 .f32) (r : Fin 200) : means2 y (ix3 0 r 0) = mean (fun n t => y (ix3 n r t)) := by
  pointwise [means2]
  rw [sum2_at]
  rfl

theorem centered2_at (y : FVec Ideal S16x200x100 .f32) (n : Fin 16) (r : Fin 200) (t : Fin 100) :
    centered2 y (ix3 n r t) = y (ix3 n r t) - mean (fun n t => y (ix3 n r t)) := by
  rw [← means2_at]
  pointwise [centered2]

theorem normed2_at (y : FVec Ideal S16x200x100 .f32) (g b : FVec Ideal S200 .f32) (n : Fin 16) (r : Fin 200) (t : Fin 100) :
    normed2 y g b (ix3 n r t) = act (g (ix1 r)) (b (ix1 r)) (fun n t => y (ix3 n r t)) n t := by
  rw [act, ← centered2_at]
  have e : spread (fun n t => y (ix3 n r t)) = means2 (mulf (centered2 y) (centered2 y)) (ix3 0 r 0) + Ideal.ofBits .f32 0x3727C5AC#32 := by
    rw [means2_at, spread]
    simp only [← centered2_at]
    rfl
  rw [e]
  pointwise [normed2, row200]

/-- The weights and the samples as the convolutions take them. -/
theorem w1_at (w : FVec Ideal S400x1x3 .f32) (r : Fin 200) (s : Fin 2) (k : Fin 3) :
    (shapeCast S200x2x1x3 w shapeCasts_S400x1x3_S200x2x1x3) (ix4 r s 0 k) = w (ix3 (chan r s) 0 k) := by
  pointwise [chan]

theorem w2_at (w : FVec Ideal S200x2x3 .f32) (r : Fin 200) (s : Fin 2) (k : Fin 3) :
    (shapeCast S200x1x2x3 w shapeCasts_S200x2x3_S200x1x2x3) (ix4 r 0 s k) = w (ix3 r s k) := by
  pointwise

theorem sequences_at (x : FVec Ideal S16x100x200 .f32) (n : Fin 16) (r : Fin 200) (t : Fin 100) : sequences x (ix3 n r t) = clean (x (ix3 n t r)) := by
  rw [← cleaned_at]
  pointwise [sequences]

theorem flip_at (y : FVec Ideal S16x200x100 .f32) (n : Fin 16) (t : Fin 100) (r : Fin 200) :
    transpose S16x100x200 [0, 2, 1] y transposes_S16x200x100_S16x100x200_0_2_1 (ix3 n t r) = y (ix3 n r t) := by
  pointwise

/-- The reference's result is the convolved signal. -/
theorem total_at (x : FVec Ideal S16x100x200 .f32) (w1 : FVec Ideal S400x1x3 .f32) (c1 g1 h1 : FVec Ideal S400 .f32) (w2 : FVec Ideal S200x2x3 .f32)
    (c2 g2 h2 : FVec Ideal S200 .f32) (n : Fin 16) (t : Fin 100) (r : Fin 200) :
    total x w1 c1 g1 h1 w2 c2 g2 h2 (ix3 n t r) = (Cert.Conv.ofArrays x w1 c1 g1 h1 w2 c2 g2 h2).out n t r := by
  unfold total
  rw [flip_at, normed2_at]
  simp only [conv2_at, w2_at, normed1_at, conv1_at, w1_at, sequences_at]
  rfl

end Cert.ConvRef

end
-- ==== Proof.lean ====
/- The assembly: the frames of the kernel, of its ideal program and of the reference, and the step from
   the kernel to its ideal program; and the equality of the two results over the extended reals; of the
   encoder and of the convolution before it. -/
module

public import proofs.«01_k».proof.Defs
public import proofs.«01_k».proof.Proof.FrameKernel
public import proofs.«01_k».proof.Proof.FrameIdeal
public import proofs.«01_k».proof.Proof.ValueIdeal
public import proofs.«01_k».proof.Proof.RefArgs
public import proofs.«01_k».proof.Proof.ConvValue
public import proofs.«01_k».proof.Proof.ConvRef
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import Idealize.ShloMosaic.Lib.Claim
public import Idealize.ShloMosaic.Lib.Quiescent

@[expose] public section

noncomputable section

namespace Cert.Proof

open Idealize.ShloMosaic Idealize.SL.Sem

/-- The reference ends with its arguments unchanged; it has no semaphores. -/
theorem frame_reference : Cert.quiescent_ReferenceIdeal (hReferenceIdeal := Cert.ReferenceIdeal.Gen.facts) := fun m ρ _ =>
  θ_run_mono (Cert.ReferenceIdeal.Value.run m ρ) fun r h => ⟨fun c => (h c).2, sem_eq_zero_of_no_sems rfl r.2⟩

/-- Equal arguments are the same argument arrays. -/
theorem args_eq (m : (ℓ : Loc Cert.KernelIdeal.nD Cert.KernelIdeal.τ Cert.KernelIdeal.sig) → Buf (Elt Ideal) ℓ)
    (V0 : Valuation Cert.ReferenceIdeal.τ Cert.ReferenceIdeal.sig (Elt Ideal)) (c : Dev Cert.KernelIdeal.nD)
    (h : Cert.Ref.args V0 = Cert.Enc.args m c) : (Cert.Ref.total V0 : FVec Ideal Cert.KernelIdeal.S16x8x4096 .f32) = Cert.Enc.result m c := by
  funext y
  have hy : y = ix3 (y 0) (y 1) (y 2) := by
    funext a
    fin_cases a <;> rfl
  have e := Cert.Ref.total_out V0 (y 0) (y 1) (y 2)
  rw [h] at e
  refine Eq.trans ?_ e
  exact congrArg (Cert.Ref.total V0) hy

/-- Both programs, run from equal arguments, end with the same embeddings. -/
theorem value : Cert.algebraic_KernelIdeal_ReferenceIdeal (hKernelIdeal := Cert.KernelIdeal.Gen.facts)
    (hReferenceIdeal := Cert.ReferenceIdeal.Gen.facts) := by
  intro m g m' g' _ hm
  refine ⟨fun c => Cert.Enc.result m c, ?_, ?_⟩
  · exact θ_run_mono (θ_run_and (Cert.Enc.run_result m g) (Cert.KernelIdeal.Hand.unchanged m g)) fun r h c => ⟨h.1 c, h.2 c⟩
  · refine θ_run_mono (θ_run_and (Cert.Ref.run_total m' g') (Cert.ReferenceIdeal.Value.run m' g')) fun r h c => ⟨(h.1 c).trans ?_, (h.2 c).2⟩
    refine args_eq m _ c ?_
    unfold Cert.Ref.args Cert.Enc.args
    exact (Cert.Enc.Args.mk.injEq ..).mpr (hm c)

/-- The idealization names the scales `1/√128` and `1/√32`; it keeps every operation. -/
theorem preserves : Cert.preserves_Kernel_KernelIdeal :=
  ⟨IdealRules.named_const.statement Cert.KernelIdeal.κ "scale_d" .f32 0x3DB504F3#32 (((Real.sqrt 128)⁻¹ : ℝ) : EReal) rfl,
    IdealRules.named_const.statement Cert.KernelIdeal.κ "scale_h" .f32 0x3E3504F3#32 (((Real.sqrt 32)⁻¹ : ℝ) : EReal) rfl⟩

/-- The convolution's reference ends with its arguments unchanged; it has no semaphores. -/
theorem frame_reference2 : Cert.quiescent_Reference2Ideal (hReference2Ideal := Cert.Reference2Ideal.Gen.facts) := fun m ρ _ =>
  θ_run_mono (Cert.Reference2Ideal.Value.run m ρ) fun r h => ⟨fun c => (h c).2, sem_eq_zero_of_no_sems rfl r.2⟩

/-- The convolution and its reference, run from equal arguments, end with the same signal. -/
theorem value2 : Cert.algebraic_Kernel2Ideal_Reference2Ideal (hKernel2Ideal := Cert.Kernel2Ideal.Gen.facts)
    (hReference2Ideal := Cert.Reference2Ideal.Gen.facts) := by
  intro m g m' g' _ hm
  refine ⟨fun c => Cert.Conv.result m c, ?_, ?_⟩
  · exact θ_run_mono (θ_run_and (Cert.Conv.run_result m g) (Cert.Kernel2Ideal.Value.run_blocks m g)) fun r h c => ⟨h.1 c, (h.2 c).2⟩
  · refine θ_run_mono (θ_run_and (Cert.ConvRef.run_total m' g') (Cert.Reference2Ideal.Value.run m' g')) fun r h c => ⟨(h.1 c).trans ?_, (h.2 c).2⟩
    obtain ⟨e0, e1, e2, e3, e4, e5, e6, e7, e8⟩ := hm c
    rw [e0, e1, e2, e3, e4, e5, e6, e7, e8]
    funext y
    have hy : y = ix3 (y 0) (y 1) (y 2) := by
      funext a
      fin_cases a <;> rfl
    exact (congrArg _ hy).trans (Cert.ConvRef.total_at _ _ _ _ _ _ _ _ _ (y 0) (y 1) (y 2))

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    fun m ρ _ => Cert.Kernel.Hand.frame m ρ, fun m ρ _ => Cert.KernelIdeal.Hand.frame m ρ, frame_reference,
    fun m ρ _ => Cert.Kernel2.Gen.frame m ρ, fun m ρ _ => Cert.Kernel2Ideal.Gen.frame m ρ, frame_reference2,
    preserves, value, trivial, value2⟩

end Cert.Proof

end
